-- ==== Defs.lean ====
def Pre_Kernel [hPre_swap_Kernel : Cert.Pre_swap_Kernel.Facts] (m : (ℓ : Loc Cert.Kernel.nD Cert.Kernel.τ Cert.Kernel.sig) → Buf (Elt Bits) ℓ) : Prop :=
  ∀ c : Dev Cert.Kernel.nD,
    (Cert.Pre_swap_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_keep_Kernel [hPre_keep_Kernel : Cert.Pre_keep_Kernel.Facts] (m : (ℓ : Loc Cert.Kernel.nD Cert.Kernel.τ Cert.Kernel.sig) → Buf (Elt Bits) ℓ) : Prop :=
  ∀ c : Dev Cert.Kernel.nD,
    (Cert.Pre_keep_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_swap_Kernel : Cert.Pre_swap_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_swap_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_keep_Kernel [hPre_keep_Kernel : Cert.Pre_keep_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_keep_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_swap_ReferenceIdeal [hPre_swap_ReferenceIdeal : Cert.Pre_swap_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_swap_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_keep_ReferenceIdeal [hPre_keep_ReferenceIdeal : Cert.Pre_keep_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_keep_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_swap_Kernel : Cert.Pre_swap_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_keep_Kernel [hKernel : Cert.Kernel.Facts] [hPre_keep_Kernel : Cert.Pre_keep_Kernel.Facts] : Prop :=
  ∀ (m : (ℓ : Loc Cert.Kernel.nD Cert.Kernel.τ Cert.Kernel.sig) → Buf (Elt Bits) ℓ) (g : Dev Cert.Kernel.nD → PrngReg), Pre_Kernel_keep_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_swap_Kernel : Cert.Pre_swap_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_keep_Kernel [hKernelIdeal : Cert.KernelIdeal.Facts] [hPre_keep_Kernel : Cert.Pre_keep_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_keep_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_swap_ReferenceIdeal [hReferenceIdeal : Cert.ReferenceIdeal.Facts] [hPre_swap_ReferenceIdeal : Cert.Pre_swap_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_swap_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_keep_ReferenceIdeal [hReferenceIdeal : Cert.ReferenceIdeal.Facts] [hPre_keep_ReferenceIdeal : Cert.Pre_keep_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_keep_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_swap_Kernel : Cert.Pre_swap_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![2, 512, 512]⟩ (Layout.meshBlock [2, 2] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![2, 512, 512]⟩ (Layout.meshBlock [2, 2] ![[0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_keep_Kernel [hKernelIdeal : Cert.KernelIdeal.Facts] [hReferenceIdeal : Cert.ReferenceIdeal.Facts] [hPre_keep_Kernel : Cert.Pre_keep_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_keep_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![2, 512, 512]⟩ (Layout.meshBlock [2, 2] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![2, 512, 512]⟩ (Layout.meshBlock [2, 2] ![[0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_swap_Kernel : Cert.Pre_swap_Kernel.Facts) (hPre_keep_Kernel : Cert.Pre_keep_Kernel.Facts) (hPre_swap_ReferenceIdeal : Cert.Pre_swap_ReferenceIdeal.Facts) (hPre_keep_ReferenceIdeal : Cert.Pre_keep_ReferenceIdeal.Facts),
    quiescent_Kernel (hKernel := hKernel) (hPre_swap_Kernel := hPre_swap_Kernel)
    ∧ quiescent_Kernel_pre_keep_Kernel (hKernel := hKernel) (hPre_keep_Kernel := hPre_keep_Kernel)
    ∧ quiescent_KernelIdeal (hKernelIdeal := hKernelIdeal) (hPre_swap_Kernel := hPre_swap_Kernel)
    ∧ quiescent_KernelIdeal_pre_keep_Kernel (hKernelIdeal := hKernelIdeal) (hPre_keep_Kernel := hPre_keep_Kernel)
    ∧ quiescent_ReferenceIdeal (hReferenceIdeal := hReferenceIdeal)
    ∧ quiescent_ReferenceIdeal_pre_swap_ReferenceIdeal (hReferenceIdeal := hReferenceIdeal) (hPre_swap_ReferenceIdeal := hPre_swap_ReferenceIdeal)
    ∧ quiescent_ReferenceIdeal_pre_keep_ReferenceIdeal (hReferenceIdeal := hReferenceIdeal) (hPre_keep_ReferenceIdeal := hPre_keep_ReferenceIdeal)
    ∧ preserves_Kernel_KernelIdeal
    ∧ algebraic_KernelIdeal_ReferenceIdeal (hKernelIdeal := hKernelIdeal) (hReferenceIdeal := hReferenceIdeal) (hPre_swap_Kernel := hPre_swap_Kernel)
    ∧ algebraic_KernelIdeal_ReferenceIdeal_pre_keep_Kernel (hKernelIdeal := hKernelIdeal) (hReferenceIdeal := hReferenceIdeal) (hPre_keep_Kernel := hPre_keep_Kernel)
-- ==== Pre_keep_Kernel.lean ====
abbrev S1x512x512 : Shape := ⟨3, ![1, 512, 512]⟩
abbrev S2 : Shape := ⟨1, ![2]⟩

class Facts : Prop where

variable [Facts]

def fn {F : FTy → Type} [FloatOps F] (main_arg0 : FVec F S1x512x512 .bf16) (main_arg1 : IVec S2 32) : IVec S2 1 :=
  let main_v0 : IVec S2 32 := iotaInDim S2 32 0
  let main_v1 : IVec S2 1 := cmpi .eq main_arg1 main_v0
  main_v1
-- ==== Pre_keep_ReferenceIdeal.lean ====
abbrev S2x512x512 : Shape := ⟨3, ![2, 512, 512]⟩
abbrev S2 : Shape := ⟨1, ![2]⟩

class Facts : Prop where

variable [Facts]

def fn {F : FTy → Type} [FloatOps F] (main_arg0 : FVec F S2x512x512 .bf16) (main_arg1 : IVec S2 32) : IVec S2 1 :=
  let main_v0 : IVec S2 32 := iotaInDim S2 32 0
  let main_v1 : IVec S2 1 := cmpi .eq main_arg1 main_v0
  main_v1
-- ==== Pre_swap_Kernel.lean ====
abbrev S1x512x512 : Shape := ⟨3, ![1, 512, 512]⟩
abbrev S2 : Shape := ⟨1, ![2]⟩
abbrev S_ : Shape := ⟨0, ![]⟩

class Facts : Prop where
  bcast_S_S2 : S_.BroadcastsInDim S2 (![] : Fin 0 → Fin S2.rank)

variable [Facts]

def fn {F : FTy → Type} [FloatOps F] (main_arg0 : FVec F S1x512x512 .bf16) (main_arg1 : IVec S2 32) : IVec S2 1 :=
  let main_v0 : IVec S2 32 := iotaInDim S2 32 0
  let main_c : IVec S_ 32 := constantI S_ 32 1#32
  let main_v1 : IVec S2 32 := broadcastInDim S2 ![] bcast_S_S2 main_c
  let main_v2 : IVec S2 32 := subi main_v1 main_v0
  let main_v3 : IVec S2 1 := cmpi .eq main_arg1 main_v2
  main_v3
-- ==== Pre_swap_ReferenceIdeal.lean ====
abbrev S2x512x512 : Shape := ⟨3, ![2, 512, 512]⟩
abbrev S2 : Shape := ⟨1, ![2]⟩
abbrev S_ : Shape := ⟨0, ![]⟩

class Facts : Prop where
  bcast_S_S2 : S_.BroadcastsInDim S2 (![] : Fin 0 → Fin S2.rank)

variable [Facts]

def fn {F : FTy → Type} [FloatOps F] (main_arg0 : FVec F S2x512x512 .bf16) (main_arg1 : IVec S2 32) : IVec S2 1 :=
  let main_v0 : IVec S2 32 := iotaInDim S2 32 0
  let main_c : IVec S_ 32 := constantI S_ 32 1#32
  let main_v1 : IVec S2 32 := broadcastInDim S2 ![] bcast_S_S2 main_c
  let main_v2 : IVec S2 32 := subi main_v1 main_v0
  let main_v3 : IVec S2 1 := cmpi .eq main_arg1 main_v2
  main_v3
-- ==== Kernel.lean ====
abbrev S1x512x512 : Shape := ⟨3, ![1, 512, 512]⟩
abbrev S2 : Shape := ⟨1, ![2]⟩
abbrev S4x1x128x512 : Shape := ⟨4, ![4, 1, 128, 512]⟩
abbrev S4 : Shape := ⟨1, ![4]⟩
abbrev S1 : Shape := ⟨1, ![1]⟩
abbrev S_ : Shape := ⟨0, ![]⟩
abbrev S1x128x512 : Shape := ⟨3, ![1, 128, 512]⟩
abbrev S1x1x128x512 : Shape := ⟨4, ![1, 1, 128, 512]⟩

abbrev nBuf : Space → Nat
  | .hbm => 3
  | .vmem => 3
  | .smem => 1
  | _ => 0

abbrev bufTy : (tb : Table) → Fin (tcTables nBuf tb) → BufTy
  | .hbm, ⟨0, _⟩ => ⟨S1x512x512, .bf16⟩
  | .hbm, ⟨1, _⟩ => ⟨S2, .i32⟩
  | .hbm, ⟨2, _⟩ => ⟨S1x512x512, .bf16⟩
  | .local _ .vmem, ⟨0, _⟩ => ⟨S1x512x512, .bf16⟩
  | .local _ .vmem, ⟨1, _⟩ => ⟨S1x512x512, .bf16⟩
  | .local _ .vmem, ⟨2, _⟩ => ⟨S4x1x128x512, .bf16⟩
  | .local _ .smem, ⟨0, _⟩ => ⟨S2, .i32⟩
  | _, _ => ⟨S1x512x512, .bf16⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_off1 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : Index := Scalar.indexCast v2
  ![v6.toNat]
def k0_dev1 (d0 : Dev nD) (v7 : BitVec 32) : Nat :=
  let c0_i32_5 : BitVec 32 := 0#32
  let c2_i32_4 : BitVec 32 := 2#32
  let v15 : BitVec 32 := Scalar.muli v7 c2_i32_4
  let v16 : BitVec 32 := Scalar.addi c0_i32_5 v15
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v17 : BitVec 32 := Scalar.muli v5 c1_i32_6
  let v18 : BitVec 32 := Scalar.addi v16 v17
  v18.toNat
def k0_cond1 (d0 : Dev nD) (v7 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 1 := Scalar.cmpi .ne v7 v2
  let v9 : BitVec 32 := Scalar.extui v8
  let c0_i32 : BitVec 32 := 0#32
  let v10 : BitVec 1 := Scalar.cmpi .ne v9 c0_i32
  v10

def k0_dev2 (d0 : Dev nD) (v7 : BitVec 32) : Nat :=
  let c0_i32_18 : BitVec 32 := 0#32
  let c2_i32_17 : BitVec 32 := 2#32
  let v24 : BitVec 32 := Scalar.muli v7 c2_i32_17
  let v25 : BitVec 32 := Scalar.addi c0_i32_18 v24
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_19 : BitVec 32 := 1#32
  let v26 : BitVec 32 := Scalar.muli v5 c1_i32_19
  let v27 : BitVec 32 := Scalar.addi v25 v26
  v27.toNat
def k0_dev3 (d0 : Dev nD) (v7 : BitVec 32) : Nat :=
  let c0_i32_35 : BitVec 32 := 0#32
  let c2_i32_34 : BitVec 32 := 2#32
  let v40 : BitVec 32 := Scalar.muli v7 c2_i32_34
  let v41 : BitVec 32 := Scalar.addi c0_i32_35 v40
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_36 : BitVec 32 := 1#32
  let v42 : BitVec 32 := Scalar.muli v5 c1_i32_36
  let v43 : BitVec 32 := Scalar.addi v41 v42
  v43.toNat
def k0_dev4 (d0 : Dev nD) (v7 : BitVec 32) : Nat :=
  let c0_i32_51 : BitVec 32 := 0#32
  let c2_i32_50 : BitVec 32 := 2#32
  let v56 : BitVec 32 := Scalar.muli v7 c2_i32_50
  let v57 : BitVec 32 := Scalar.addi c0_i32_51 v56
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_52 : BitVec 32 := 1#32
  let v58 : BitVec 32 := Scalar.muli v5 c1_i32_52
  let v59 : BitVec 32 := Scalar.addi v57 v58
  v59.toNat
def k0_dev5 (d0 : Dev nD) (v7 : BitVec 32) : Nat :=
  let c0_i32_66 : BitVec 32 := 0#32
  let c2_i32_65 : BitVec 32 := 2#32
  let v72 : BitVec 32 := Scalar.muli v7 c2_i32_65
  let v73 : BitVec 32 := Scalar.addi c0_i32_66 v72
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_67 : BitVec 32 := 1#32
  let v74 : BitVec 32 := Scalar.muli v5 c1_i32_67
  let v75 : BitVec 32 := Scalar.addi v73 v74
  v75.toNat

def k0_chk1 (d0 : Dev nD) (v7 : BitVec 32) : Prop :=
  (∀ (k0_h1 : k0_cond1 d0 v7 = 1#1), (k0_dev1 d0 v7) < nD) ∧
  (∀ (k0_h1 : k0_cond1 d0 v7 = 1#1), (k0_dev2 d0 v7) < nD) ∧
  (∀ (k0_h1 : k0_cond1 d0 v7 = 1#1), (k0_dev3 d0 v7) < nD) ∧
  (∀ (k0_h1 : k0_cond1 d0 v7 = 1#1), (k0_dev4 d0 v7) < nD) ∧
  (∀ (k0_h1 : k0_cond1 d0 v7 = 1#1), (k0_dev5 d0 v7) < nD)
theorem k0_dev1_lt : ∀ (d0 : Dev nD) (v7 : BitVec 32) (k0_hw1 : k0_chk1 d0 v7), ∀ (k0_h1 : k0_cond1 d0 v7 = 1#1), (k0_dev1 d0 v7) < nD := fun d0 v7 k0_hw1 k0_h1 => k0_hw1.1 k0_h1
theorem k0_dev2_lt : ∀ (d0 : Dev nD) (v7 : BitVec 32) (k0_hw1 : k0_chk1 d0 v7), ∀ (k0_h1 : k0_cond1 d0 v7 = 1#1), (k0_dev2 d0 v7) < nD := fun d0 v7 k0_hw1 k0_h1 => k0_hw1.2.1 k0_h1
theorem k0_dev3_lt : ∀ (d0 : Dev nD) (v7 : BitVec 32) (k0_hw1 : k0_chk1 d0 v7), ∀ (k0_h1 : k0_cond1 d0 v7 = 1#1), (k0_dev3 d0 v7) < nD := fun d0 v7 k0_hw1 k0_h1 => k0_hw1.2.2.1 k0_h1
theorem k0_dev4_lt : ∀ (d0 : Dev nD) (v7 : BitVec 32) (k0_hw1 : k0_chk1 d0 v7), ∀ (k0_h1 : k0_cond1 d0 v7 = 1#1), (k0_dev4 d0 v7) < nD := fun d0 v7 k0_hw1 k0_h1 => k0_hw1.2.2.2.1 k0_h1
theorem k0_dev5_lt : ∀ (d0 : Dev nD) (v7 : BitVec 32) (k0_hw1 : k0_chk1 d0 v7), ∀ (k0_h1 : k0_cond1 d0 v7 = 1#1), (k0_dev5 d0 v7) < nD := fun d0 v7 k0_hw1 k0_h1 => k0_hw1.2.2.2.2 k0_h1

abbrev stage0_0 : Fin 1 → Memref sig .tc .vmem S1x512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S2 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2x512x512 : Shape := ⟨3, ![2, 512, 512]⟩
abbrev S2 : Shape := ⟨1, ![2]⟩
abbrev S_ : Shape := ⟨0, ![]⟩
abbrev S2x1 : Shape := ⟨2, ![2, 1]⟩

abbrev nBuf : Space → Nat
  | .hbm => 16
  | .vmem => 0
  | .smem => 0
  | _ => 0

abbrev bufTy : (tb : Table) → Fin (tcTables nBuf tb) → BufTy
  | .hbm, ⟨0, _⟩ => ⟨S2x512x512, .bf16⟩
  | .hbm, ⟨1, _⟩ => ⟨S2, .i32⟩
  | .hbm, ⟨2, _⟩ => ⟨S2, .i32⟩
  | .hbm, ⟨3, _⟩ => ⟨S2, .i32⟩
  | .hbm, ⟨4, _⟩ => ⟨S2, .i32⟩
  | .hbm, ⟨5, _⟩ => ⟨S_, .i32⟩
  | .hbm, ⟨6, _⟩ => ⟨S2, .i32⟩
  | .hbm, ⟨7, _⟩ => ⟨S2, .i1⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S2, .i32⟩
  | .hbm, ⟨12, _⟩ => ⟨S2x1, .i32⟩
  | .hbm, ⟨13, _⟩ => ⟨S2x512x512, .bf16⟩
  | .hbm, ⟨14, _⟩ => ⟨S2x512x512, .f32⟩
  | .hbm, ⟨15, _⟩ => ⟨S2x512x512, .bf16⟩
  | _, _ => ⟨S2x512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Proof.Blocks.lean ====
/-
The four row blocks of a shard, and the four slots of the send buffer.

A device's shard is one 512x512 matrix. It crosses to the partner in four blocks of 128 rows: block `k` is copied
into slot `k` of the send buffer, and slot `k` is sent into block `k` of the partner's output. This file names the
blocks and the slots, shows that each family tiles its buffer, and shows that a block sent this way lands unchanged.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Permute

open Cert.KernelIdeal Cert.KernelIdeal.Gen
open Idealize.ShloMosaic
open Idealize.ShloMosaic.TcCoe

variable {F : FTy → Type} [FloatOps F]

/-- The contents of a shard held whole in fast memory. -/
abbrev Shard (F : FTy → Type) : Type := S1x512x512.Idx → Elt F .bf16

theorem rows_inb (k : Fin 4) : ∀ a, (![0, 128 * k.val, 0] : Fin 3 → Nat) a + S1x128x512.size a ≤ S1x512x512.size a := by
  revert k; decide

theorem slot_inb (k : Fin 4) : ∀ a, (![k.val, 0, 0, 0] : Fin 4 → Nat) a + S1x1x128x512.size a ≤ S4x1x128x512.size a := by
  revert k; decide

/-- Rows `128 k` to `128 k + 127` of a shard. -/
abbrev rows (k : Fin 4) : Rect S1x512x512 := Rect.unit ![0, 128 * k.val, 0] S1x128x512.size (rows_inb k)

/-- Slot `k` of the send buffer. -/
abbrev slotAt (k : Fin 4) : Rect S4x1x128x512 := Rect.unit ![k.val, 0, 0, 0] S1x1x128x512.size (slot_inb k)

/-- Block `k` of the output, as a transfer's destination. -/
abbrev outRows (k : Fin 4) : Memref sig .tc .vmem S1x128x512 .bf16 :=
  (Memref.whole cc0_stg2_0).slice (rows k) (fun _ => rfl)

/-- Slot `k` of the send buffer, as a transfer's source. -/
abbrev slot (k : Fin 4) : Memref sig .tc .vmem S1x128x512 .bf16 :=
  ((Memref.whole cc0_scratch0).slice (slotAt k) (fun _ => rfl)).squeeze S1x128x512 squeezes_S1x1x128x512_S1x128x512

theorem outRows_set (k : Fin 4) : (outRows k).view.set = (rows k).set := View.set_slice_whole _ _

theorem slot_set (k : Fin 4) : (slot k).view.set = (slotAt k).set :=
  (View.set_reshape _ _).trans (View.set_slice_whole _ _)

theorem rows_disjoint : ∀ k l : Fin 4, k ≠ l → Disjoint (rows k).set (rows l).set := by
  intro k l hkl
  rw [Finset.disjoint_left]
  intro i hi hj
  have h1 := (Rect.mem_set_unit.1 hi) 1
  have h2 := (Rect.mem_set_unit.1 hj) 1
  have e1 : S1x128x512.size 1 = 128 := rfl
  simp only [Matrix.cons_val_one, Matrix.cons_val_zero, e1] at h1 h2
  exact hkl (Fin.ext (by omega))

theorem rows_cover : (Finset.univ : Finset (Fin 4)).biUnion (fun k => (rows k).set) = Finset.univ := by
  ext i
  simp only [Finset.mem_biUnion, Finset.mem_univ, true_and, iff_true]
  have h0 : (i 0 : Nat) < 1 := (i 0).isLt
  have h1 : (i 1 : Nat) < 512 := (i 1).isLt
  have h2 : (i 2 : Nat) < 512 := (i 2).isLt
  refine ⟨⟨(i 1 : Nat) / 128, by omega⟩, Rect.mem_set_unit.2 ?_⟩
  intro a
  fin_cases a
  · exact ⟨Nat.zero_le _, h0⟩
  · exact ⟨(by omega : 128 * ((i 1 : Nat) / 128) ≤ i 1), (by omega : (i 1 : Nat) < 128 * ((i 1 : Nat) / 128) + 128)⟩
  · exact ⟨Nat.zero_le _, (by omega : (i 2 : Nat) < 0 + 512)⟩

theorem slot_disjoint : ∀ k l : Fin 4, k ≠ l → Disjoint (slotAt k).set (slotAt l).set := by
  intro k l hkl
  rw [Finset.disjoint_left]
  intro i hi hj
  have h1 := (Rect.mem_set_unit.1 hi) 0
  have h2 := (Rect.mem_set_unit.1 hj) 0
  have e1 : S1x1x128x512.size 0 = 1 := rfl
  simp only [Matrix.cons_val_zero, e1] at h1 h2
  exact hkl (Fin.ext (by omega))

theorem slot_cover : (Finset.univ : Finset (Fin 4)).biUnion (fun k => (slotAt k).set) = Finset.univ := by
  ext i
  simp only [Finset.mem_biUnion, Finset.mem_univ, true_and, iff_true]
  have h0 : (i 0 : Nat) < 4 := (i 0).isLt
  have h1 : (i 1 : Nat) < 1 := (i 1).isLt
  have h2 : (i 2 : Nat) < 128 := (i 2).isLt
  have h3 : (i 3 : Nat) < 512 := (i 3).isLt
  refine ⟨⟨(i 0 : Nat), h0⟩, Rect.mem_set_unit.2 ?_⟩
  intro a
  fin_cases a
  · exact ⟨le_refl _, Nat.lt_succ_self _⟩
  · exact ⟨Nat.zero_le _, (by omega : (i 1 : Nat) < 0 + 1)⟩
  · exact ⟨Nat.zero_le _, (by omega : (i 2 : Nat) < 0 + 128)⟩
  · exact ⟨Nat.zero_le _, (by omega : (i 3 : Nat) < 0 + 512)⟩

/-- The two reshapes around a slot undo each other. -/
theorem slot_payload (v : Vec F S1x128x512 .bf16) (h : S1x128x512.numel = S1x1x128x512.numel) (j : S1x128x512.Idx) :
    k0_pay2 (F := F) v (Shape.reshapeEquiv h j) = v j := by
  unfold k0_pay2
  simp only [shapeCast]
  rw [Shape.reshapeEquiv_self, Shape.reshapeEquiv_reshapeEquiv, Shape.reshapeEquiv_self]

theorem slot_read (k : Fin 4) (g : (cc0_scratch0).ty.Contents (Elt F)) (w : FVec F S1x1x128x512 .bf16)
    (h : S1x128x512.numel = S1x1x128x512.numel) :
    (slot k).view.read (Elt F) (((Memref.whole cc0_scratch0).access (slotAt k)).write (Elt F) g w Finset.univ)
      = fun j => w (Shape.reshapeEquiv h j) :=
  funext fun j => congrFun (View.read_write_univ (v := (View.whole cc0_scratch0).slice (slotAt k)) g w) (Shape.reshapeEquiv h j)

/-- A block read from `x`, written to a slot and sent from there into the same block of a buffer, is that block of `x`. -/
theorem block_lands (k : Fin 4) (x : Shard F) (g : (cc0_scratch0).ty.Contents (Elt F)) (f : Shard F) :
    ∀ i ∈ (outRows k).view.set,
      (outRows k).view.write (Elt F) f ((slot k).view.read (Elt F)
        (((Memref.whole cc0_scratch0).access (slotAt k)).write (Elt F) g
          (k0_pay2 (F := F) ((Memref.whole cc0_stg0_0).view.readAt (Elt F) (rows k).toLoadRect x)) Finset.univ)) Finset.univ i
        = x i := by
  intro i hi
  obtain ⟨j, -, rfl⟩ := Finset.mem_map.1 hi
  have h : S1x128x512.numel = S1x1x128x512.numel := shapeCasts_S1x128x512_S1x1x128x512.symm
  rw [View.write_emb_of_mem _ _ (Finset.mem_univ j), slot_read k g _ h, cast_eq]
  exact slot_payload _ h j

end Cert.Permute
-- ==== Proof.Table.lean ====
/-
What a device reads at launch: its shard, and the word of the table that names the partner.

Device `c` sits at row `c / 2`, column `c % 2` of the mesh and holds matrix `c / 2` of the input. It reads word `c / 2`
of its copy of the table. If the table is `[1, 0]` the word is the other row, so the device trades shards with its
`partner`, the device in the other row of the same column. If the table is `[0, 1]` the word is the device's own row, and
the shard stays where it is.
-/
module

public import proofs.«01_k».proof.Proof.Blocks

@[expose] public section

noncomputable section

namespace Cert.Permute

open Cert.KernelIdeal Cert.KernelIdeal.Gen
open Idealize.ShloMosaic
open Idealize.ShloMosaic.TcCoe

variable {F : FTy → Type}

set_option backward.proofsInPublic true in
/-- The device in the other row of the same column. -/
def partner (c : Dev nD) : Dev nD := ⟨(c.val + 2) % 4, Nat.mod_lt _ (by decide)⟩

theorem partner_partner (c : Dev nD) : partner (partner c) = c := by revert c; decide

def trade : Dev nD ≃ Dev nD := ⟨partner, partner, partner_partner, partner_partner⟩

/-! ## The words -/

/-- The word that sends a device's shard to the other row, and the one that keeps it. -/
def otherRow (c : Dev nD) : BitVec 32 := BitVec.ofNat 32 (1 - c.val / 2)
def ownRow (c : Dev nD) : BitVec 32 := BitVec.ofNat 32 (c.val / 2)

theorem other_cond (c : Dev nD) : k0_cond1 c (otherRow c) = 1#1 := by revert c; decide
theorem other_chk (c : Dev nD) : k0_chk1 c (otherRow c) := by revert c; decide
theorem other_dev1 (c : Dev nD) : k0_dev1 c (otherRow c) = (partner c).val := by revert c; decide
theorem other_dev2 (c : Dev nD) : k0_dev2 c (otherRow c) = (partner c).val := by revert c; decide
theorem other_dev3 (c : Dev nD) : k0_dev3 c (otherRow c) = (partner c).val := by revert c; decide
theorem other_dev4 (c : Dev nD) : k0_dev4 c (otherRow c) = (partner c).val := by revert c; decide
theorem other_dev5 (c : Dev nD) : k0_dev5 c (otherRow c) = (partner c).val := by revert c; decide

/-- The row a device computes from its own number. -/
abbrev rowWord (c : Dev nD) : BitVec 32 := Scalar.remsi (Scalar.divsi (Dev.word c) 2#32) 2#32

theorem other_last (c : Dev nD) :
    Scalar.cmpi .ne (Scalar.extui (Scalar.cmpi .eq (otherRow c) (rowWord c)) : BitVec 32) 0#32 ≠ (1#1 : BitVec 1) := by
  revert c; decide

theorem own_cond (c : Dev nD) : k0_cond1 c (ownRow c) ≠ 1#1 := by revert c; decide
theorem own_chk (c : Dev nD) : k0_chk1 c (ownRow c) := by revert c; decide
theorem own_last (c : Dev nD) :
    Scalar.cmpi .ne (Scalar.extui (Scalar.cmpi .eq (ownRow c) (rowWord c)) : BitVec 32) 0#32 = (1#1 : BitVec 1) := by
  revert c; decide

/-! ## What the launch memory holds -/

variable (m : (ℓ : Loc nD τ sig) → Buf (Elt F) ℓ)

/-- Device `c`'s shard as the pipeline stages it, and its copy of the table. -/
def shard (c : Dev nD) : Shard F := (win0_0.blk (0 : Fin 1)).view.read (Elt F) (m ((c : Thread nD τ).loc main_arg0))
def table (c : Dev nD) : (cc0_stg1_0 : Ref sig .tc).ty.Contents (Elt F) :=
  (win0_1.blk (0 : Fin 1)).view.read (Elt F) (m ((c : Thread nD τ).loc main_arg1))

/-- The word of a table that device `c` reads. -/
abbrev wordAt (c : Dev nD) : Rect S2 := Rect.unit (s := S2) (k0_off1 c) S1.size (k0_off1_inb c)
abbrev word (c : Dev nD) (t : (cc0_stg1_0 : Ref sig .tc).ty.Contents (Elt F)) : BitVec 32 :=
  ((Memref.whole cc0_stg1_0).access (wordAt c) : View sig .tc _ _ _).read (Elt F) t
    (Shape.Idx.first (s := S1) (numel1_S1.symm ▸ Nat.one_pos))

/-- Index `c / 2` of a table of two words. -/
def rowIdx (c : Dev nD) : S2.Idx := fun a => ⟨c.val / 2, by have : c.val < 4 := c.isLt; fin_cases a; show c.val / 2 < 2; omega⟩

theorem word_table (c : Dev nD) :
    word c (table m c) = (m ((c : Thread nD τ).loc main_arg1) : IVec S2 32) (rowIdx c) := by
  show m ((c : Thread nD τ).loc main_arg1) _ = _
  refine congrArg _ (funext fun a => Fin.ext ?_)
  fin_cases a; fin_cases c <;> rfl

/-- Every device's table is `[1, 0]`, as far as the device looks. -/
def Trades : Prop := ∀ c : Dev nD, (m ((c : Thread nD τ).loc main_arg1) : IVec S2 32) (rowIdx c) = otherRow c
/-- Every device's table is `[0, 1]`, as far as the device looks. -/
def Keeps : Prop := ∀ c : Dev nD, (m ((c : Thread nD τ).loc main_arg1) : IVec S2 32) (rowIdx c) = ownRow c

variable {m} in
theorem Trades.word_eq (h : Trades m) (c : Dev nD) : word c (table m c) = otherRow c := (word_table m c).trans (h c)
variable {m} in
theorem Keeps.word_eq (h : Keeps m) (c : Dev nD) : word c (table m c) = ownRow c := (word_table m c).trans (h c)

end Cert.Permute
-- ==== Proof.Schedule.lean ====
/-
The schedule of signals and transfers when the shards are traded.

Every device has nine semaphores of its own: the entry barrier, one per block for a completed send, one per block for a
completed receive. Each is used for one round, and each round has one payment:

* the barrier of `c` is paid one unit by the partner, which hands over its output buffer with it;
* the send semaphore of block `k` is paid by `c`'s own transfer, and gives slot `k` back;
* the receive semaphore of block `k` is paid by the partner's transfer, and gives block `k` of `c`'s output, which
  then holds block `k` of the partner's shard.
-/
module

public import proofs.«01_k».proof.Proof.Table
public import Idealize.ShloMosaic.Lib.Ring

@[expose] public section

noncomputable section

namespace Cert.Permute

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type}

abbrev UTrade : Type := URounds (GSem nD τ sig) Unit
abbrev UU : Type := UR sig nD τ × UTrade

local notation "𝕄" => MT nD τ sig Unit (Elt F) ℕ UU ℕ

abbrev EPipe : Emb (UR sig nD τ) (MT nD τ sig Unit (Elt F) ℕ UU ℕ) := embL
abbrev ETrade : Emb UTrade (MT nD τ sig Unit (Elt F) ℕ UU ℕ) := embR

/-! ## The semaphores -/

theorem sem_inb (k : Fin 4) : ∀ a, (![k.val] : Fin 1 → Nat) a + S1.size a ≤ S4.size a := by revert k; decide

abbrev barSem : Sem sig := (SemArray.scalar (sig.barrier 0 rfl) : Sems sig S_).sem
abbrev sendSem (k : Fin 4) : DmaSem sig :=
  ((cc0_scratch1.slice (Rect.unit (s := S4) ![k.val] S1.size (sem_inb k))).squeeze S_ squeezes_S1_S_ : DmaSems sig S_).sem
abbrev recvSem (k : Fin 4) : DmaSem sig :=
  ((cc0_scratch2.slice (Rect.unit (s := S4) ![k.val] S1.size (sem_inb k))).squeeze S_ squeezes_S1_S_ : DmaSems sig S_).sem

/-- A device's semaphores: `none` the barrier, `some (false, k)` block `k` sent, `some (true, k)` block `k` received. -/
abbrev Port : Type := Option (Bool × Fin 4)

abbrev semOf : Port → SemLoc sig
  | none => .reg barSem
  | some (false, k) => .dma (sendSem k)
  | some (true, k) => .dma (recvSem k)

abbrev cell (c : Dev nD) (i : Port) : GSem nD τ sig := ((c : Thread nD τ), semOf i)

theorem semOf_injective : Function.Injective semOf := by
  have h : ∀ i j : Port, semOf i = semOf j → i = j := by decide
  exact fun i j => h i j

/-! ## The buffers -/

/-- Slot `k` of `c`'s send buffer. -/
def slotHas (c : Dev nD) (k : Fin 4) (f : Buf (Elt F) ((slot k).view.loc (c : Thread nD τ))) : sProp 𝕄 :=
  (slot k).view.loc (c : Thread nD τ) ↦[(slot k).view.set]{fullShare} f
/-- Block `k` of `c`'s output. -/
def rowsHave (c : Dev nD) (k : Fin 4) (f : Buf (Elt F) ((outRows k).view.loc (c : Thread nD τ))) : sProp 𝕄 :=
  (outRows k).view.loc (c : Thread nD τ) ↦[(outRows k).view.set]{fullShare} f

instance slotHas_storable (c : Dev nD) (k : Fin 4) (f) : BI.Storable (upEmb : UEmb _ 𝕄) (slotHas (F := F) c k f) := by
  unfold slotHas; infer_instance
instance rowsHave_storable (c : Dev nD) (k : Fin 4) (f) : BI.Storable (upEmb : UEmb _ 𝕄) (rowsHave (F := F) c k f) := by
  unfold rowsHave; infer_instance

/-- A whole send buffer is its four slots; four slots at any contents are a whole send buffer. -/
theorem slots_split (c : Dev nD) (f : Buf (Elt F) ((c : Thread nD τ).loc cc0_scratch0)) :
    (((c : Thread nD τ).loc cc0_scratch0) ↦{fullShare} f : sProp 𝕄) = bigSep Finset.univ fun k : Fin 4 => slotHas c k f := by
  rw [Ring.pointsTo_blocks (fun k : Fin 4 => (slotAt k).set) slot_disjoint slot_cover f]
  exact bigSep_congr fun k _ => by unfold slotHas; rw [slot_set]

theorem slots_join (c : Dev nD) (f₀ : Buf (Elt F) ((c : Thread nD τ).loc cc0_scratch0)) :
    bigSep Finset.univ (fun k : Fin 4 => iprop(∃ f, slotHas (F := F) c k f))
      ⊢ (iprop(∃ g, ((c : Thread nD τ).loc cc0_scratch0) ↦{fullShare} g) : sProp 𝕄) := by
  refine BIBase.Entails.trans (Entails.of_eq (bigSep_congr fun k _ => ?_))
    (Ring.pointsTo_blocks_join_exists (fun k : Fin 4 => (slotAt k).set) slot_disjoint slot_cover f₀)
  unfold slotHas; rw [slot_set]

/-- A whole output is its four blocks. -/
theorem rows_split (c : Dev nD) (f : Buf (Elt F) ((c : Thread nD τ).loc cc0_stg2_0)) :
    (((c : Thread nD τ).loc cc0_stg2_0) ↦{fullShare} f : sProp 𝕄) = bigSep Finset.univ fun k : Fin 4 => rowsHave c k f := by
  rw [Ring.pointsTo_blocks (fun k : Fin 4 => (rows k).set) rows_disjoint rows_cover f]
  exact bigSep_congr fun k _ => by unfold rowsHave; rw [outRows_set]

/-! ## The schedule -/

/-- The credit of one block. -/
abbrev blockCredit : ℕ := (outRows 0).view.dmaCredit
theorem blockCredit_pos : 0 < blockCredit := View.dmaCredit_pos _ (by decide)
theorem blockCredit_out (k : Fin 4) : (outRows k).view.dmaCredit = blockCredit := by revert k; decide
theorem blockCredit_slot (k : Fin 4) : (slot k).view.dmaCredit = blockCredit := by revert k; decide

variable (sh : Dev nD → Shard F)

/-- What a payment hands to the device whose semaphore it is. -/
def handed (c : Dev nD) : Port → sProp 𝕄
  | none => iprop(∃ f : Buf (Elt F) ((partner c : Thread nD τ).loc cc0_stg2_0), ((partner c : Thread nD τ).loc cc0_stg2_0) ↦{fullShare} f)
  | some (false, k) => iprop(∃ f, slotHas c k f)
  | some (true, k) => rowsHave c k (sh (partner c))

instance handed_storable (c : Dev nD) (i : Port) : BI.Storable (upEmb : UEmb _ 𝕄) (handed sh c i) := by
  rcases i with _ | ⟨_ | _, k⟩ <;> unfold handed <;> infer_instance

def trading : Rounds.Schedule (GSem nD τ sig) Unit 𝕄 where
  duties g r := if r = 0 ∧ g.1.2 = .tc ∧ ∃ i, semOf i = g.2 then {()} else ∅
  unitless _ := False
  amount g _ _ := if g.2 = .reg barSem then 1 else blockCredit
  payload g _ _ := if h : ∃ i, semOf i = g.2 then handed sh g.1.1 h.choose else iprop(emp)
  amount_pos g _ _ _ := by
    by_cases h : g.2 = .reg barSem
    · rw [if_pos h]; exact Nat.one_pos
    · rw [if_neg h]; exact blockCredit_pos

instance trading_storable (g : GSem nD τ sig) (r : ℕ) (d : Unit) : BI.Storable (upEmb : UEmb _ 𝕄) ((trading sh).payload g r d) := by
  dsimp only [trading]
  split <;> infer_instance

/-- A port's payment: one unit at the barrier, a block's credit elsewhere. -/
def units : Port → ℕ
  | none => 1
  | some _ => blockCredit

theorem trading_duties (c : Dev nD) (i : Port) : (trading sh).duties (cell c i) 0 = {()} := if_pos ⟨rfl, rfl, i, rfl⟩
theorem trading_later (g : GSem nD τ sig) : ∀ r, 1 ≤ r → (trading sh).duties g r = ∅ := fun r hr => if_neg fun h => by omega
theorem trading_amount (c : Dev nD) (i : Port) : (trading sh).amount (cell c i) 0 () = units i := by
  rcases i with _ | ⟨_ | _, k⟩
  · dsimp only [trading]; exact if_pos rfl
  · dsimp only [trading]; exact if_neg (fun h => by cases h)
  · dsimp only [trading]; exact if_neg (fun h => by cases h)
theorem trading_expect (c : Dev nD) (i : Port) : (trading sh).expect (cell c i) 0 = units i := by
  unfold Schedule.expect Schedule.amountOf
  rw [trading_duties, Finset.sum_singleton, trading_amount]
theorem trading_payload (c : Dev nD) (i : Port) : (trading sh).payload (cell c i) 0 () = handed sh c i := by
  have h : ∃ j, semOf j = (cell c i).2 := ⟨i, rfl⟩
  have e : h.choose = i := semOf_injective h.choose_spec
  dsimp only [trading]
  rw [dif_pos h, e]
theorem trading_rest (c : Dev nD) (i : Port) :
    bigSep ((trading sh).duties (cell c i) 0 \ ∅) (fun d => (trading sh).payload (cell c i) 0 d) = handed sh c i := by
  rw [Finset.sdiff_empty, trading_duties, bigSep_singleton, trading_payload]

/-! ## What a device owes, and the order of waits -/

/-- `c` owes the partner's receive semaphores a credit per block still to send, the next block last; -/
def owesBlocks (c : Dev nD) : List (Fin 4) → CellTallies nD τ sig Unit
  | [] => 0
  | k :: ks => owesBlocks c ks + tallyAt (cell (partner c) (some (true, k))) () blockCredit
/-- at launch that for all four blocks, and a unit at the partner's barrier. -/
def owesAll (c : Dev nD) : CellTallies nD τ sig Unit := owesBlocks c [0, 1, 2, 3] + tallyAt (cell (partner c) none) () 1

def idxs (g : GSem nD τ sig) : Finset Unit := if g.1.2 = .tc then {()} else ∅
/-- Barriers wait below receives; staging and sends wait below both. -/
def height (g : GSem nD τ sig) (_ : Unit) : ℕ := if g.2 = .reg barSem then 1 else if ∃ k, g.2 = .dma (recvSem k) then 2 else 0

theorem idxs_of_ne (g : GSem nD τ sig) (h : g.1.2 ≠ .tc) : idxs g = ∅ := if_neg h
theorem idxs_tc (c : Dev nD) (sm : SemLoc sig) : idxs ((c : Thread nD τ), sm) = {()} := if_pos rfl
theorem height_bar (c : Dev nD) : height (cell c none) () = 1 := if_pos rfl
theorem height_recv (c : Dev nD) (k : Fin 4) : height (cell c (some (true, k))) () = 2 := by
  unfold height; rw [if_neg (fun h => by cases h), if_pos ⟨k, rfl⟩]
theorem height_dma (c : Dev nD) (q : DmaSem sig) (h : ∀ k, q ≠ recvSem k) : height ((c : Thread nD τ), .dma q) () = 0 := by
  unfold height; rw [if_neg (fun h => by cases h), if_neg (fun ⟨k, e⟩ => h k (SemLoc.dma.inj e))]

theorem owesBlocks_pos {c : Dev nD} {g : GSem nD τ sig} {u : Unit} : ∀ {ks : List (Fin 4)}, 0 < owesBlocks c ks g u →
    ∃ k, g = cell (partner c) (some (true, k))
  | [], h => absurd h (Nat.lt_irrefl 0)
  | k :: ks, h => by
    unfold owesBlocks at h
    rw [Pi.add_apply, Finsupp.add_apply, tallyAt_apply] at h
    by_cases e : g = cell (partner c) (some (true, k)) ∧ u = ()
    · exact ⟨k, e.1⟩
    · rw [if_neg e, Nat.add_zero] at h; exact owesBlocks_pos h

theorem owesAll_pos {c : Dev nD} {g : GSem nD τ sig} {u : Unit} (h : 0 < owesAll c g u) :
    g = cell (partner c) none ∨ ∃ k, g = cell (partner c) (some (true, k)) := by
  unfold owesAll at h
  rw [Pi.add_apply, Finsupp.add_apply, tallyAt_apply] at h
  by_cases e : g = cell (partner c) none ∧ u = ()
  · exact .inl e.1
  · rw [if_neg e, Nat.add_zero] at h; exact .inr (owesBlocks_pos h)

/-- A staging wait is below everything a device can owe. -/
theorem mayWait_dma (c : Dev nD) (q : DmaSem sig) (hq : ∀ k, q ≠ recvSem k) (O : CellTallies nD τ sig Unit) (hO : O = owesAll c ∨ O = 0) :
    (levAts idxs height : sProp 𝕄) ⊢ MayWait (c : Thread nD τ) (.dma q) () O := by
  rcases hO with rfl | rfl
  · refine MayOwe.of_cut (L := idxs) (lev := height) 0
      (fun p hp => by rw [Finset.mem_singleton.mp hp, idxs_tc]; exact Finset.mem_singleton_self _)
      (fun g u hg => by rcases owesAll_pos hg with rfl | ⟨k, rfl⟩ <;> exact Finset.mem_singleton_self _)
      (fun p hp => by rw [Finset.mem_singleton.mp hp]; exact (height_dma c q hq).le)
      (fun g u hg => by
        rcases owesAll_pos hg with rfl | ⟨k, rfl⟩
        · rw [height_bar]; decide
        · rw [height_recv]; decide)
  · rw [MayWait_zero]; iintro -; iempintro

/-- At the barrier a device owes receive credits only. -/
theorem mayWait_barrier (c : Dev nD) (ks : List (Fin 4)) :
    (levAts idxs height : sProp 𝕄) ⊢ MayWait (c : Thread nD τ) (.reg barSem) () (owesBlocks c ks) :=
  MayOwe.of_cut (L := idxs) (lev := height) 1
    (fun p hp => by rw [Finset.mem_singleton.mp hp, idxs_tc]; exact Finset.mem_singleton_self _)
    (fun g u hg => by obtain ⟨k, rfl⟩ := owesBlocks_pos hg; exact Finset.mem_singleton_self _)
    (fun p hp => by rw [Finset.mem_singleton.mp hp]; exact (height_bar c).le)
    (fun g u hg => by obtain ⟨k, rfl⟩ := owesBlocks_pos hg; rw [height_recv]; decide)

end Cert.Permute
-- ==== Proof.Trade.lean ====
/-
The body of a device that trades its shard.

The device signals the partner's barrier, handing over its own output buffer, and waits for the partner's signal, which
brings the partner's output buffer. It then copies and sends its four blocks, and waits for each block to be sent and
for each block of the partner to arrive. At the end its output holds the partner's shard.
-/
module

public import proofs.«01_k».proof.Proof.Schedule

@[expose] public section

noncomputable section

namespace Cert.Permute

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type}

local notation "𝕄" => MT nD τ sig Unit (Elt F) ℕ UU ℕ

abbrev noVariants : Variants := Variants.none

/-- A sum over a device's ports: the barrier, then the two ports of each block. -/
theorem over_ports (Φ : Port → sProp 𝕄) :
    bigSep Finset.univ Φ = iprop(Φ none ∗ bigSep Finset.univ fun k : Fin 4 => iprop(Φ (some (false, k)) ∗ Φ (some (true, k)))) := by
  rw [bigSep_univ_eq_bigSepL [none, some (false, 0), some (true, 0), some (false, 1), some (true, 1), some (false, 2), some (true, 2),
      some (false, 3), some (true, 3)] (by decide) (by decide) Φ, bigSep_univ_eq_bigSepL [0, 1, 2, 3] (by decide) (by decide)]
  have assoc : ∀ P Q R : sProp 𝕄, iprop((P ∗ Q) ∗ R) = iprop(P ∗ (Q ∗ R)) := fun P Q R => equiv_iff.mp ⟨BI.sep_assoc, BI.sep_assoc'⟩
  simp only [bigSepL_cons_cons, bigSepL_singleton]
  show iprop(_ ∗ _ ∗ _ ∗ _ ∗ _ ∗ _ ∗ _ ∗ _ ∗ _) = iprop(_ ∗ (_ ∗ _) ∗ (_ ∗ _) ∗ (_ ∗ _) ∗ _ ∗ _)
  simp only [assoc]

variable (sh : Dev nD → Shard F) (K : Dev nD × Port → ℕ)

/-! ## What a device starts from -/

/-- Every semaphore of every device: its invariant, and that its round has begun. -/
def records : sProp 𝕄 :=
  bigSep Finset.univ fun ci : Dev nD × Port =>
    iprop(cellInv ETrade (trading sh) (K ci) (cell ci.1 ci.2) ∗ reached ETrade (cell ci.1 ci.2) 0)

instance records_persistent : BI.Persistent (records sh K) := by unfold records; infer_instance

theorem record (c : Dev nD) (i : Port) :
    records sh K ⊢ iprop(cellInv ETrade (trading sh) (K (c, i)) (cell c i) ∗ reached ETrade (cell c i) 0) := by
  unfold records; exact bigSep_elim (Finset.mem_univ (c, i))

theorem handed_bar (c : Dev nD) : handed sh c none
    = iprop(∃ f : Buf (Elt F) ((partner c : Thread nD τ).loc cc0_stg2_0), ((partner c : Thread nD τ).loc cc0_stg2_0) ↦{fullShare} f) := rfl
theorem handed_sent (c : Dev nD) (k : Fin 4) : handed sh c (some (false, k)) = iprop(∃ f, slotHas c k f) := rfl
theorem handed_here (c : Dev nD) (k : Fin 4) : handed sh c (some (true, k)) = rowsHave c k (sh (partner c)) := rfl
/-- What the partner's barrier takes is the device's own output. -/
theorem handed_over (c : Dev nD) : handed sh (partner c) none
    = iprop(∃ f : Buf (Elt F) ((c : Thread nD τ).loc cc0_stg2_0), ((c : Thread nD τ).loc cc0_stg2_0) ↦{fullShare} f) := by
  rw [handed_bar, partner_partner]

/-- Whose port `i` device `c` pays. -/
def pays (c : Dev nD) : Port → Dev nD
  | none => partner c
  | some (false, _) => c
  | some (true, _) => partner c

theorem pays_pays (c : Dev nD) (i : Port) : pays (pays c i) i = c := by
  rcases i with _ | ⟨_ | _, k⟩ <;> simp [pays, partner_partner]

/-- A device's position at each of its ports, and the right to make each of its payments. -/
def rights (c : Dev nD) : sProp 𝕄 :=
  bigSep Finset.univ fun i : Port => iprop(atPos ETrade (cell c i) 0 ∅ 0 ∗ dutyTok ETrade (cell (pays c i) i) 0 ())

/-- The credit a device starts with: a unit at its barrier, a block at each receive. -/
def credits (c : Dev nD) : sProp 𝕄 :=
  iprop(cred (tallyAt (cell c none) () 1) ∗ bigSep Finset.univ fun k : Fin 4 => cred (tallyAt (cell c (some (true, k))) () blockCredit))

/-! ## One block -/

/-- What sending block `k` takes, and what waiting for it takes and gives. -/
def sendable (c : Dev nD) (k : Fin 4) : sProp 𝕄 :=
  iprop(dutyTok ETrade (cell c (some (false, k))) 0 () ∗ dutyTok ETrade (cell (partner c) (some (true, k))) 0 ()
    ∗ (∃ f, slotHas (F := F) c k f) ∗ ∃ f, rowsHave (F := F) (partner c) k f)
def awaited (c : Dev nD) (k : Fin 4) : sProp 𝕄 :=
  iprop(atPos ETrade (cell c (some (false, k))) 0 ∅ 0 ∗ atPos ETrade (cell c (some (true, k))) 0 ∅ 0
    ∗ cred (tallyAt (cell c (some (true, k))) () blockCredit))
def arrived (c : Dev nD) (k : Fin 4) : sProp 𝕄 :=
  iprop((∃ f, slotHas (F := F) c k f) ∗ rowsHave c k (sh (partner c))
    ∗ semVal (cell c (some (false, k))) 0 ∗ semVal (cell c (some (true, k))) 0)

/-- The shard in fast memory. -/
abbrev holdsShard (c : Dev nD) : sProp 𝕄 := iprop(((c : Thread nD τ).loc cc0_stg0_0) ↦{fullShare} sh c)

variable [FloatOps F]

/-- Send block `k` from slot `k`, which holds it, to the partner. -/
theorem wp_sendBlock (c n : Dev nD) (hn : n = partner c) (k : Fin 4) (ks : List (Fin 4)) (W : Waits sig Unit)
    {hsc : (outRows k : Memref sig (Dev.tc n : Thread nD τ).2.kind .vmem S1x128x512 .bf16).view.ref.isScScratch = false}
    {hsrc : (slot k).view.WordExact} {hdst : (outRows k).view.WordExact}
    {hsem : DmaTarget.Typed .vmem (.dma (recvSem k)) (.remote (Dev.tc n : Thread nD τ) (outRows k) (.dma (sendSem k)) hsc)}
    {α : Type} {Q : α → sProp 𝕄} {kk : PUnit → Prog (TpuEff nD τ sig (Elt F) Λ₀ .tc) α}
    (g : Buf (Elt F) ((slot k).view.loc (c : Thread nD τ))) (f : Buf (Elt F) ((outRows k).view.loc (partner c : Thread nD τ)))
    (hg : ∀ i ∈ (outRows k).view.set,
      (outRows k).view.write (Elt F) f ((slot k).view.read (Elt F) g) Finset.univ i = sh c i) :
    iprop(records sh K ∗ slotHas c k g ∗ rowsHave (partner c) k f
        ∗ dutyTok ETrade (cell c (some (false, k))) 0 () ∗ dutyTok ETrade (cell (partner c) (some (true, k))) 0 ()
        ∗ owes (c : Thread nD τ) (owesBlocks c (k :: ks)) W)
      ⊢ iprop(((cred (tallyAt (cell c (some (false, k))) () blockCredit) ∗ owes (c : Thread nD τ) (owesBlocks c ks) W)
            -∗ wp frame (wpE (defs₀ (F := F)) noVariants (c : Thread nD τ) none) Set.univ (kk ⟨⟩) Q)
          -∗ wp frame (wpE (defs₀ (F := F)) noVariants (c : Thread nD τ) none) Set.univ
              (.op (.enqueueDma (slot k) (.remote (Dev.tc n : Thread nD τ) (outRows k) (.dma (sendSem k)) hsc) (.dma (recvSem k)) hsrc hdst hsem) kk) Q) := by
  subst hn
  unfold slotHas rowsHave
  iintro ⟨#HR, Hs, Hd, Ht, Ht', HO⟩
  ihave #H1 := (record sh K c (some (false, k))) $$ HR
  icases H1 with ⟨#HI1, #Hr1⟩
  ihave #H2 := (record sh K (partner c) (some (true, k))) $$ HR
  icases H2 with ⟨#HI2, #Hr2⟩
  iapply (Rounds.wp_send_pointsTo noVariants ETrade (trading sh) (c : Thread nD τ) none (κ₁ := K (c, some (false, k)))
    (κ₂ := K (partner c, some (true, k))) (r₁ := 0) (r₂ := 0) (d₁ := ()) (d₂ := ()) (fs := g) (fd := f)
    (by rw [trading_duties sh c (some (false, k))]; exact Finset.mem_singleton_self _)
    (by rw [trading_duties sh (partner c) (some (true, k))]; exact Finset.mem_singleton_self _)
    () () blockCredit (by exact blockCredit_out k) (trading_amount sh c (some (false, k))) (trading_amount sh (partner c) (some (true, k)))
    (owesBlocks c ks) rfl (W := W)
    (by
      rw [trading_payload sh c (some (false, k))]
      show _ ⊢ iprop(∃ f, slotHas c k f)
      unfold slotHas
      iintro H; iexists g; iexact H)
    (by
      rw [trading_payload sh (partner c) (some (true, k))]
      show _ ⊢ rowsHave (partner c) k (sh (partner (partner c)))
      unfold rowsHave
      rw [partner_partner]
      exact Entails.of_eq (pointsTo_congr hg)))
  isplitr; · iexact HI1
  isplitr; · iexact HI2
  isplitl [Hs]; · iexact Hs
  isplitl [Hd]; · iexact Hd
  isplitl [HO]; · iexact HO
  isplitl [Ht]; · iexact Ht
  isplitr; · iexact Hr1
  isplitl [Ht']; · iexact Ht'
  iexact Hr2

set_option maxHeartbeats 1000000 in
/-- Read block `k` of the shard, copy it to slot `k`, and send it. -/
theorem wp_block (c n : Dev nD) (hn : n = partner c) (k : Fin 4) (ks : List (Fin 4)) (W : Waits sig Unit)
    {hx : (Memref.whole cc0_stg0_0 : Memref sig .tc .vmem S1x512x512 .bf16).view.LoadsAt (rows k).toLoadRect}
    {hl : (Memref.whole cc0_scratch0 : Memref sig .tc .vmem S4x1x128x512 .bf16).view.LoadsAt (slotAt k).toLoadRect}
    {hs : ((Memref.whole cc0_scratch0 : Memref sig .tc .vmem S4x1x128x512 .bf16).access (slotAt k)).Stores Finset.univ}
    {hm : ((Finset.univ : Finset (slotAt k).shape.Idx) = Finset.univ ∨ ∀ a, (slotAt k).stride a = 1)}
    {hsc : (outRows k : Memref sig (Dev.tc n : Thread nD τ).2.kind .vmem S1x128x512 .bf16).view.ref.isScScratch = false}
    {hsrc : (slot k).view.WordExact} {hdst : (outRows k).view.WordExact}
    {hsem : DmaTarget.Typed .vmem (.dma (recvSem k)) (.remote (Dev.tc n : Thread nD τ) (outRows k) (.dma (sendSem k)) hsc)}
    {α : Type} {Q : α → sProp 𝕄} {kk : PUnit → Prog (TpuEff nD τ sig (Elt F) Λ₀ .tc) α}
    (pay : Vec F S1x128x512 .bf16 → FVec F S1x1x128x512 .bf16) (hp : ∀ v, pay v = k0_pay2 v) :
    iprop(records sh K ∗ holdsShard sh c ∗ sendable c k ∗ owes (c : Thread nD τ) (owesBlocks c (k :: ks)) W)
      ⊢ iprop(((holdsShard sh c ∗ cred (tallyAt (cell c (some (false, k))) () blockCredit) ∗ owes (c : Thread nD τ) (owesBlocks c ks) W)
            -∗ wp frame (wpE (defs₀ (F := F)) noVariants (c : Thread nD τ) none) Set.univ (kk ⟨⟩) Q)
          -∗ wp frame (wpE (defs₀ (F := F)) noVariants (c : Thread nD τ) none) Set.univ
              (.op (.load (Memref.whole cc0_stg0_0) (rows k).toLoadRect hx) fun v =>
                .op (.load (Memref.whole cc0_scratch0) (slotAt k).toLoadRect hl) fun _ =>
                .op (.store (Memref.whole cc0_scratch0) (slotAt k) (pay v) Finset.univ hs hm) fun _ =>
                .op (.enqueueDma (slot k) (.remote (Dev.tc n : Thread nD τ) (outRows k) (.dma (sendSem k)) hsc) (.dma (recvSem k)) hsrc hdst hsem) kk) Q) := by
  unfold sendable
  iintro ⟨#HR, Hx, ⟨Ht, Ht', ⟨%g, Hs⟩, ⟨%f, Hd⟩⟩, HO⟩ Hk
  iapply (wp_load noVariants (c : Thread nD τ) none Set.univ (m := Memref.whole cc0_stg0_0) (Finset.subset_univ _)) $$ Hx; iintro Hx
  unfold slotHas
  iapply (wp_load noVariants (c : Thread nD τ) none Set.univ (m := Memref.whole cc0_scratch0) (S := (slot k).view.set)
    (by rw [slot_set]; exact subset_of_eq Finset.map_refl)) $$ Hs; iintro Hs
  iapply (wp_store noVariants (c : Thread nD τ) none Set.univ (m := Memref.whole cc0_scratch0) (r := slotAt k) (Mk := Finset.univ)
    (S := (slot k).view.set) (by rw [slot_set]; exact subset_of_eq (View.set_slice_whole _ _))) $$ Hs; iintro Hs
  rw [hp]
  iapply (wp_sendBlock sh K c n hn k ks W _ f (block_lands k (sh c) g f)) $$ [Hs Hd Ht Ht' HO]
  · isplitr; · iexact HR
    isplitl [Hs]; · unfold slotHas; iexact Hs
    isplitl [Hd]; · iexact Hd
    isplitl [Ht]; · iexact Ht
    isplitl [Ht']; · iexact Ht'
    iexact HO
  iintro ⟨HC, HO⟩
  iapply Hk
  isplitl [Hx]; · iexact Hx
  isplitl [HC] <;> iassumption

set_option maxHeartbeats 1000000 in
/-- Wait until block `k` is sent and until the partner's block `k` is here; both semaphores are then done with. -/
theorem wp_blockDone (c : Dev nD) (k : Fin 4) (W : Waits sig Unit)
    {h1 : (outRows k).view.WordExact} {h2 : (slot k).view.WordExact} {h3 : (slot k).view.WordExact} {h4 : (outRows k).view.WordExact}
    {α : Type} {Q : α → sProp 𝕄} {kk : PUnit → Prog (TpuEff nD τ sig (Elt F) Λ₀ .tc) α} :
    iprop(records sh K ∗ awaited (F := F) c k ∗ cred (tallyAt (cell c (some (false, k))) () blockCredit) ∗ owes (c : Thread nD τ) 0 W)
      ⊢ iprop(((arrived sh c k ∗ ∃ W', owes (c : Thread nD τ) 0 W')
            -∗ wp frame (wpE (defs₀ (F := F)) noVariants (c : Thread nD τ) none) Set.univ (kk ⟨⟩) Q)
          -∗ wp frame (wpE (defs₀ (F := F)) noVariants (c : Thread nD τ) none) Set.univ
              (.op (.waitDma2 (sendSem k) (outRows k) (slot k) h1 h2) fun _ =>
                .op (.waitDma2 (recvSem k) (slot k) (outRows k) h3 h4) kk) Q) := by
  unfold awaited arrived
  iintro ⟨#HR, ⟨HaS, HaR, HcR⟩, HcS, HO⟩ Hk
  ihave #H1 := (record sh K c (some (false, k))) $$ HR
  icases H1 with ⟨#HIS, -⟩
  ihave #H2 := (record sh K c (some (true, k))) $$ HR
  icases H2 with ⟨#HIR, -⟩
  iapply (Rounds.wp_wait_rest_token noVariants ETrade (trading sh) (c : Thread nD τ) none (κ := K (c, some (false, k)))
      (wpE_waitDma2_eq noVariants (c : Thread nD τ) none Set.univ) (Set.mem_univ _) () (O := 0) (W := W) (R := 0) (m := 0) (T := ∅)
      (by rw [Nat.zero_add, trading_expect sh c (some (false, k))]; exact blockCredit_slot k)) $$ [HcS HO HaS]
  · isplitr; · iexact HIS
    isplitl [HcS]; · rw [blockCredit_slot k]; iexact HcS
    isplitl [HO]; · iexact HO
    isplitr; · rw [MayWait_zero]; iempintro
    iexact HaS
  iintro ⟨HO, HaS, -, Hp⟩
  ihave Hslot := (Entails.of_eq ((trading_rest sh c (some (false, k))).trans (handed_sent sh c k))) $$ Hp
  iapply (Rounds.wp_wait_rest_token noVariants ETrade (trading sh) (c : Thread nD τ) none (κ := K (c, some (true, k)))
      (wpE_waitDma2_eq noVariants (c : Thread nD τ) none Set.univ) (Set.mem_univ _) () (O := 0) (R := 0) (m := 0) (T := ∅)
      (by rw [Nat.zero_add, trading_expect sh c (some (true, k))]; exact blockCredit_out k)) $$ [HcR HO HaR]
  · isplitr; · iexact HIR
    isplitl [HcR]; · rw [blockCredit_out k]; iexact HcR
    isplitl [HO]; · iexact HO
    isplitr; · rw [MayWait_zero]; iempintro
    iexact HaR
  iintro ⟨HO, HaR, -, Hp⟩
  ihave Hrows := (Entails.of_eq ((trading_rest sh c (some (true, k))).trans (handed_here sh c k))) $$ Hp
  imod (Rounds.cell_close ETrade (trading sh) (Set.mem_univ (K (c, some (false, k)))) (fun h => h) (R := 0 + 1) (trading_later sh _)) $$ [HaS] with HzS
  · isplitr; · iexact HIS
    iexact HaS
  imod (Rounds.cell_close ETrade (trading sh) (Set.mem_univ (K (c, some (true, k)))) (fun h => h) (R := 0 + 1) (trading_later sh _)) $$ [HaR] with HzR
  · isplitr; · iexact HIR
    iexact HaR
  iapply Hk
  isplitr [HO]
  · isplitl [Hslot]; · iexact Hslot
    isplitl [Hrows]; · iexact Hrows
    isplitl [HzS] <;> iassumption
  · iexists _; iexact HO

set_option maxHeartbeats 1000000 in
/-- Signal the partner, handing over the output buffer, and wait for the partner's. -/
theorem wp_meet (c n : Dev nD) (hn : n = partner c) (W : Waits sig Unit) (g : Buf (Elt F) ((c : Thread nD τ).loc cc0_stg2_0))
    {α : Type} {Q : α → sProp 𝕄} {kk : PUnit → Prog (TpuEff nD τ sig (Elt F) Λ₀ .tc) α} :
    iprop(records sh K ∗ levAts idxs height ∗ owes (c : Thread nD τ) (owesAll c) W ∗ (((c : Thread nD τ).loc cc0_stg2_0) ↦{fullShare} g)
        ∗ dutyTok ETrade (cell (partner c) none) 0 () ∗ atPos ETrade (cell c none) 0 ∅ 0 ∗ cred (tallyAt (cell c none) () 1))
      ⊢ iprop((((∃ W', owes (c : Thread nD τ) (owesBlocks c [0, 1, 2, 3]) W') ∗ semVal (cell c none) 0
              ∗ ∃ f : Buf (Elt F) ((partner c : Thread nD τ).loc cc0_stg2_0), ((partner c : Thread nD τ).loc cc0_stg2_0) ↦{fullShare} f)
            -∗ wp frame (wpE (defs₀ (F := F)) noVariants (c : Thread nD τ) none) Set.univ (kk ⟨⟩) Q)
          -∗ wp frame (wpE (defs₀ (F := F)) noVariants (c : Thread nD τ) none) Set.univ
              (.op (.semSignal (Dev.tc n) barSem (1#32 : BitVec 32).toInt) fun _ => .op (.semWait barSem (1#32 : BitVec 32).toInt) kk) Q) := by
  subst hn
  rw [show (1#32 : BitVec 32).toInt = ((1#32 : BitVec 32).toNat : Int) from rfl]
  iintro ⟨#HR, #Hlev, HO, Hout, Ht, Ha, HC⟩ Hk
  ihave #H1 := (record sh K (partner c) none) $$ HR
  icases H1 with ⟨#HIN, #HrN⟩
  ihave #H2 := (record sh K c none) $$ HR
  icases H2 with ⟨#HI, -⟩
  iapply (Rounds.wp_signal noVariants ETrade (trading sh) (c : Thread nD τ) none (dst := (partner c : Thread nD τ)) (κ := K (partner c, none))
      (d := ()) (by rw [trading_duties sh (partner c) none]; exact Finset.mem_singleton_self _)
      ((trading_amount sh (partner c) none).trans (by decide)) () (O₀ := owesAll c) (owesBlocks c [0, 1, 2, 3]) rfl) $$ [HO Ht Hout]
  · isplitr; · iexact HIN
    isplitl [HO]; · iexact HO
    isplitl [Ht]; · iexact Ht
    isplitl [Hout]
    · rw [trading_payload sh (partner c) none, handed_over]
      iexists g; iexact Hout
    · iexact HrN
  iintro HO
  iapply (Rounds.wp_wait_rest_token noVariants ETrade (trading sh) (c : Thread nD τ) none (κ := K (c, none))
      (wpE_semWait_eq noVariants (c : Thread nD τ) none Set.univ) (Set.mem_univ _) () (O := owesBlocks c [0, 1, 2, 3]) (W := W) (R := 0) (m := 0) (T := ∅)
      (by rw [trading_expect sh c none]; decide)) $$ [HC HO Ha]
  · isplitr; · iexact HI
    isplitl [HC]; · iexact HC
    isplitl [HO]; · iexact HO
    isplitr; · iapply (mayWait_barrier c [0, 1, 2, 3]); iexact Hlev
    iexact Ha
  iintro ⟨HO, Ha, -, Hp⟩
  ihave Hf := (Entails.of_eq ((trading_rest sh c none).trans (handed_bar sh c))) $$ Hp
  imod (Rounds.cell_close ETrade (trading sh) (Set.mem_univ (K (c, none))) (fun h => h) (R := 0 + 1) (trading_later sh _)) $$ [Ha] with Hz
  · isplitr; · iexact HI
    iexact Ha
  iapply Hk
  isplitl [HO]; · iexists _; iexact HO
  isplitl [Hz]; · iexact Hz
  iexact Hf

end Cert.Permute
-- ==== Proof.TradeBody.lean ====
/-
The whole body of a device that trades its shard, and the pipeline's account of it.

The kernel runs on a grid of one point. The pipeline stages the shard and the table in, and the output out. Before the
point a device has its rights, its credits and the send buffer; after it the semaphores are back at zero, the send buffer
holds something, and the output is the partner's shard.
-/
module

public import proofs.«01_k».proof.Proof.Trade
public import proofs.«01_k».proof.Proof.Gen.KernelIdeal.Points

@[expose] public section

noncomputable section

namespace Cert.Permute

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type}

local notation "𝕄" => MT nD τ sig Unit (Elt F) ℕ UU ℕ

variable (m : (ℓ : Loc nD τ sig) → Buf (Elt F) ℓ)

/-! ## The account -/

/-- The send buffer at some contents. -/
def sendBuffer (c : Dev nD) : sProp 𝕄 :=
  iprop(∃ f : Buf (Elt F) ((c : Thread nD τ).loc cc0_scratch0), ((c : Thread nD τ).loc cc0_scratch0) ↦{fullShare} f)

/-- What a device starts from, before the launch adds the send buffer. -/
def starts (c : Dev nD) : sProp 𝕄 :=
  iprop((∃ K, records (shard m) K ∗ rights c) ∗ credits c ∗ levAts idxs height)

def beforePoint (c : Dev nD) : sProp 𝕄 := iprop(starts m c ∗ sendBuffer c)
def afterPoint (c : Dev nD) : sProp 𝕄 := iprop((bigSep Finset.univ fun i : Port => semVal (cell c i) 0) ∗ sendBuffer c)

def account (_ : Fin 1) (c : Dev nD) : Dat τ (Elt F) Unit ℕ UU ℕ cfg0 c where
  A w := m ((cfg0.win w).arr.view.loc (c : Thread nD τ))
  after w _ := match w with
    | ⟨0, _⟩ => shard m c
    | ⟨1, _⟩ => table m c
    | ⟨2, _⟩ => shard m (partner c)
  Φ t := match t with
    | ⟨0, _⟩ => beforePoint m c
    | ⟨_ + 1, _⟩ => afterPoint c
  q _ := fullShare
  owed t := match t with
    | ⟨0, _⟩ => owesAll c
    | ⟨_ + 1, _⟩ => 0

/-- The grid's one point. -/
theorem points_one : cfg0.N = 1 := by decide
def point : Fin cfg0.N := ⟨0, by rw [points_one]; decide⟩
theorem point_unique (t : Fin cfg0.N) : t = point := by
  obtain ⟨t, ht⟩ := t; have := points_one; exact Fin.ext (by simp only [point]; omega)

theorem whole_buffer (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev staged (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem over_blocks (Φ : Fin 4 → sProp 𝕄) : bigSep Finset.univ Φ = iprop(Φ 0 ∗ Φ 1 ∗ Φ 2 ∗ Φ 3) :=
  bigSep_univ_eq_bigSepL [0, 1, 2, 3] (by decide) (by decide) Φ

variable [FloatOps F]

/-! ## The body -/

def bodyPre (K : Dev nD × Port → ℕ) (c : Dev nD) : sProp 𝕄 :=
  iprop(((records (shard m) K ∗ rights c) ∗ credits c ∗ levAts idxs height ∗ sendBuffer c)
    ∗ (account m 0 c).owesAt () point.castSucc
    ∗ (∃ d, staged c cc0_stg0_0 ((account m 0 c).before (0 : Fin 3) point d))
    ∗ (∃ d, staged c cc0_stg1_0 ((account m 0 c).before (1 : Fin 3) point d))
    ∗ (∃ d, staged c cc0_stg2_0 ((account m 0 c).before (2 : Fin 3) point d)))
def bodyPost (c : Dev nD) : sProp 𝕄 :=
  iprop(afterPoint c ∗ (account m 0 c).owesAt () point.succ
    ∗ staged c cc0_stg0_0 (shard m c) ∗ staged c cc0_stg1_0 (table m c) ∗ staged c cc0_stg2_0 (shard m (partner c)))

set_option maxHeartbeats 4000000 in
theorem sound_trade (ht : Trades m) (K : Dev nD × Port → ℕ) (c : Dev nD) (Kt : PUnit → sProp 𝕄) :
    iprop(bodyPre m K c ∗ (bodyPost m c -∗ Kt ⟨⟩))
      ⊢ wp frame (wpE (defs₀ (F := F)) noVariants c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton]
  simp only [smemLoad, smemLoadElt, Prog.lift, Prog.bind_op, Prog.bind_ret, Prog.pure_eq_ret, Prog.bind_assoc, wp_deviceId]
  unfold bodyPre rights credits sendBuffer
  simp only [over_ports, over_blocks]
  iintro ⟨⟨⟨⟨#HR, ⟨HaB, HtB⟩, ⟨⟨Has0, Hts0⟩, Har0, Htr0⟩, ⟨⟨Has1, Hts1⟩, Har1, Htr1⟩, ⟨⟨Has2, Hts2⟩, Har2, Htr2⟩, ⟨⟨Has3, Hts3⟩, Har3, Htr3⟩⟩,
    ⟨HcB, Hc0, Hc1, Hc2, Hc3⟩, #Hlev, ⟨%f0, Hbuf⟩⟩, Ho, ⟨%d0, %g0, %hg0, Hx⟩, ⟨%d1, %g1, %hg1, Htab⟩, ⟨%d2, %g2, %hg2, Hout⟩⟩, Hk⟩
  have hx : g0 = shard m c := by rw [hg0]; unfold Dat.before; rw [if_pos (fetch0_0 point)]; rfl
  subst hx
  have htab : g1 = table m c := by rw [hg1]; unfold Dat.before; rw [if_pos (fetch0_1 point)]; rfl
  subst htab
  unfold Dat.owesAt Pipeline.owesWithin
  icases Ho with ⟨%W, %hW, HO⟩
  rw [show (account m 0 c).owed point.castSucc = owesAll c from rfl]
  iapply (wp_load_rect noVariants (c : Thread nD τ) none Set.univ (m := Memref.whole cc0_stg1_0) (r := wordAt c) (Finset.subset_univ _)) $$ Htab
  iintro Htab
  have hw := ht.word_eq c
  unfold word at hw
  rw [hw]
  simp only [wp_assume_of _ _ _ _ (d := k0_chk1.dec _ _) (other_chk c)]
  rw [dif_pos (other_cond c)]
  simp only [k0_part1_skel, k0_part2_skel, k0_part3_skel, k0_part4_skel, k0_part5_skel, semSignalWord, semWaitWord, Prog.lift, Prog.bind_op,
    Prog.bind_ret, Prog.pure_eq_ret, Prog.bind_assoc]
  -- meet the partner
  iapply (wp_meet (shard m) K c _ (Fin.ext (other_dev1 c)) W g2) $$ [HO Hout HtB HaB HcB]
  · isplitr; · iexact HR
    isplitr; · iexact Hlev
    isplitl [HO]; · iexact HO
    isplitl [Hout]; · iexact Hout
    isplitl [HtB]; · iexact HtB
    isplitl [HaB] <;> iassumption
  iintro ⟨⟨%W', HO⟩, Hzb, ⟨%fn, Hpeer⟩⟩
  ihave Hb := (Entails.of_eq ((slots_split c f0).trans (over_blocks _))) $$ Hbuf
  icases Hb with ⟨Hbuf0, Hbuf1, Hbuf2, Hbuf3⟩
  ihave Hp := (Entails.of_eq ((rows_split (partner c) fn).trans (over_blocks _))) $$ Hpeer
  icases Hp with ⟨Hpeer0, Hpeer1, Hpeer2, Hpeer3⟩
  -- copy and send the four blocks
  iapply (wp_block (shard m) K c _ (Fin.ext (other_dev2 c)) 0 [1, 2, 3] _ (k0_pay2) (fun _ => rfl)) $$ [Hx Hts0 Htr0 Hbuf0 Hpeer0 HO]
  · isplitr; · iexact HR
    isplitl [Hx]; · iexact Hx
    isplitl [Hts0 Htr0 Hbuf0 Hpeer0]
    · unfold sendable
      isplitl [Hts0]; · iexact Hts0
      isplitl [Htr0]; · iexact Htr0
      isplitl [Hbuf0]; · iexists f0; iexact Hbuf0
      iexists fn; iexact Hpeer0
    · iexact HO
  iintro ⟨Hx, Hd0, HO⟩
  iapply (wp_block (shard m) K c _ (Fin.ext (other_dev3 c)) 1 [2, 3] _ (fun v => k0_pay4 (k0_pay3 v)) (fun _ => rfl)) $$ [Hx Hts1 Htr1 Hbuf1 Hpeer1 HO]
  · isplitr; · iexact HR
    isplitl [Hx]; · iexact Hx
    isplitl [Hts1 Htr1 Hbuf1 Hpeer1]
    · unfold sendable
      isplitl [Hts1]; · iexact Hts1
      isplitl [Htr1]; · iexact Htr1
      isplitl [Hbuf1]; · iexists f0; iexact Hbuf1
      iexists fn; iexact Hpeer1
    · iexact HO
  iintro ⟨Hx, Hd1, HO⟩
  iapply (wp_block (shard m) K c _ (Fin.ext (other_dev4 c)) 2 [3] _ (k0_pay5) (fun _ => rfl)) $$ [Hx Hts2 Htr2 Hbuf2 Hpeer2 HO]
  · isplitr; · iexact HR
    isplitl [Hx]; · iexact Hx
    isplitl [Hts2 Htr2 Hbuf2 Hpeer2]
    · unfold sendable
      isplitl [Hts2]; · iexact Hts2
      isplitl [Htr2]; · iexact Htr2
      isplitl [Hbuf2]; · iexists f0; iexact Hbuf2
      iexists fn; iexact Hpeer2
    · iexact HO
  iintro ⟨Hx, Hd2, HO⟩
  iapply (wp_block (shard m) K c _ (Fin.ext (other_dev5 c)) 3 [] _ (k0_pay6) (fun _ => rfl)) $$ [Hx Hts3 Htr3 Hbuf3 Hpeer3 HO]
  · isplitr; · iexact HR
    isplitl [Hx]; · iexact Hx
    isplitl [Hts3 Htr3 Hbuf3 Hpeer3]
    · unfold sendable
      isplitl [Hts3]; · iexact Hts3
      isplitl [Htr3]; · iexact Htr3
      isplitl [Hbuf3]; · iexists f0; iexact Hbuf3
      iexists fn; iexact Hpeer3
    · iexact HO
  iintro ⟨Hx, Hd3, HO⟩
  -- wait for them, and for the partner's
  iapply (wp_blockDone (shard m) K c 0 _) $$ [Has0 Har0 Hc0 Hd0 HO]
  · isplitr; · iexact HR
    isplitl [Has0 Har0 Hc0]
    · unfold awaited
      isplitl [Has0]; · iexact Has0
      isplitl [Har0] <;> iassumption
    isplitl [Hd0]; · iexact Hd0
    iexact HO
  unfold arrived
  iintro ⟨⟨Hslot0, Hrows0, Hzs0, Hzr0⟩, ⟨%W0, HO⟩⟩
  iapply (wp_blockDone (shard m) K c 1 _) $$ [Has1 Har1 Hc1 Hd1 HO]
  · isplitr; · iexact HR
    isplitl [Has1 Har1 Hc1]
    · unfold awaited
      isplitl [Has1]; · iexact Has1
      isplitl [Har1] <;> iassumption
    isplitl [Hd1]; · iexact Hd1
    iexact HO
  unfold arrived
  iintro ⟨⟨Hslot1, Hrows1, Hzs1, Hzr1⟩, ⟨%W1, HO⟩⟩
  iapply (wp_blockDone (shard m) K c 2 _) $$ [Has2 Har2 Hc2 Hd2 HO]
  · isplitr; · iexact HR
    isplitl [Has2 Har2 Hc2]
    · unfold awaited
      isplitl [Has2]; · iexact Has2
      isplitl [Har2] <;> iassumption
    isplitl [Hd2]; · iexact Hd2
    iexact HO
  unfold arrived
  iintro ⟨⟨Hslot2, Hrows2, Hzs2, Hzr2⟩, ⟨%W2, HO⟩⟩
  iapply (wp_blockDone (shard m) K c 3 _) $$ [Has3 Har3 Hc3 Hd3 HO]
  · isplitr; · iexact HR
    isplitl [Has3 Har3 Hc3]
    · unfold awaited
      isplitl [Has3]; · iexact Has3
      isplitl [Har3] <;> iassumption
    isplitl [Hd3]; · iexact Hd3
    iexact HO
  unfold arrived
  iintro ⟨⟨Hslot3, Hrows3, Hzs3, Hzr3⟩, ⟨%W3, HO⟩⟩
  simp only [if_neg (other_last c), Prog.bind_ret]
  rw [wp_ret]; imodintro
  iapply Hk
  unfold bodyPost afterPoint sendBuffer Dat.owesAt Pipeline.owesWithin
  rw [show (account m 0 c).owed point.succ = 0 from rfl]
  rw [over_ports, over_blocks]
  isplitl [Hzb Hzs0 Hzr0 Hzs1 Hzr1 Hzs2 Hzr2 Hzs3 Hzr3 Hslot0 Hslot1 Hslot2 Hslot3]
  · isplitr [Hslot0 Hslot1 Hslot2 Hslot3]
    · isplitl [Hzb]; · iexact Hzb
      isplitl [Hzs0 Hzr0]; · isplitl [Hzs0] <;> iassumption
      isplitl [Hzs1 Hzr1]; · isplitl [Hzs1] <;> iassumption
      isplitl [Hzs2 Hzr2]; · isplitl [Hzs2] <;> iassumption
      isplitl [Hzs3] <;> iassumption
    · iapply (slots_join c f0)
      rw [over_blocks]
      isplitl [Hslot0]; · iexact Hslot0
      isplitl [Hslot1]; · iexact Hslot1
      isplitl [Hslot2] <;> iassumption
  isplitl [HO]
  · iexists W3
    isplitr; · ipureintro; exact fun _ _ => Or.inl trivial
    iexact HO
  isplitl [Hx]
  · iexists _; isplitr; · (ipureintro; rfl)
    iexact Hx
  isplitl [Htab]
  · iexists _; isplitr; · (ipureintro; rfl)
    iexact Htab
  iexists (shard m (partner c)); isplitr; · (ipureintro; rfl)
  iapply (Entails.of_eq ((rows_split c (shard m (partner c))).trans (over_blocks _)).symm)
  isplitl [Hrows0]; · iexact Hrows0
  isplitl [Hrows1]; · iexact Hrows1
  isplitl [Hrows2] <;> iassumption

end Cert.Permute
-- ==== Proof.TradeRun.lean ====
/-
The launch when the shards are traded.

Before the launch every semaphore is at zero and nobody has paid anything. This file deals each device its rights, its
credits and its debts, gives the pipeline the body's account, and reads off where a run ends: the two arguments as they
were, each device's result the partner's shard, every semaphore back at zero.
-/
module

public import proofs.«01_k».proof.Proof.TradeBody
public import Idealize.ShloMosaic.Lib.Pipeline.CollectiveSegs

@[expose] public section

noncomputable section

namespace Cert.Permute

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type}

local notation "𝕄" => MT nD τ sig Unit (Elt F) ℕ UU ℕ

variable (m : (ℓ : Loc nD τ sig) → Buf (Elt F) ℓ) (ρ : Dev nD → PrngReg)

/-! ## The semaphores dealt -/

/-- The kernel's own semaphores; the barrier is the machine's. -/
abbrev ownSem (i : Bool × Fin 4) : SemLoc sig := semOf (some i)

theorem ownSem_facts : Pipeline.OwnSemFacts cfg0.spec ownSem := by decide

theorem cell_inj {c d : Dev nD} {i j : Port} (h : cell c i = cell d j) : c = d ∧ i = j :=
  ⟨Fin.ext (congrArg (fun g : GSem nD τ sig => g.1.1.val) h), semOf_injective (congrArg Prod.snd h)⟩

theorem cell_injective : Function.Injective (fun ci : Dev nD × Port => cell ci.1 ci.2) := by
  rintro ⟨c, i⟩ ⟨d, j⟩ h
  obtain ⟨rfl, rfl⟩ := cell_inj h
  rfl

def allCells : Finset (GSem nD τ sig) := Finset.univ.map ⟨fun ci : Dev nD × Port => cell ci.1 ci.2, cell_injective⟩

theorem token_injective : Function.Injective (fun ci : Dev nD × Port => ((cell ci.1 ci.2, 0, ()) : GSem nD τ sig × ℕ × Unit)) :=
  fun a b h => cell_injective (congrArg Prod.fst h)

def allTokens : Finset (GSem nD τ sig × ℕ × Unit) := Finset.univ.map ⟨_, token_injective⟩

def ghost₀ : UU := (initOf (Pipeline.cells cfgs cellOf_inj) (Pipeline.launchToks cfgs cellOf_inj), initOf allCells allTokens)

/-- What the launch deals a device: its ports unopened, its positions, and the tokens of its own ports. -/
def dealt (sh : Dev nD → Shard F) (c : Dev nD) : sProp 𝕄 :=
  iprop((bigSep Finset.univ fun i : Port => roundState ETrade (trading sh) (cell c i) 0)
    ∗ (bigSep Finset.univ fun i : Port => iprop(atPos ETrade (cell c i) 0 ∅ 0 ∗ reached ETrade (cell c i) 0))
    ∗ bigSep Finset.univ fun i : Port => dutyTok ETrade (cell c i) 0 ())

theorem deal (sh : Dev nD → Shard F) : BI.own (ETrade (initOf allCells allTokens)) ⊢ (|==> bigSep Finset.univ (dealt sh) : sProp 𝕄) := by
  have hX (Φ : GSem nD τ sig → sProp 𝕄) :
      bigSep allCells Φ = bigSep Finset.univ fun c : Dev nD => bigSep Finset.univ fun i : Port => Φ (cell c i) := by
    unfold allCells; rw [bigSep_map, bigSep_univ_prod]; rfl
  have hT : bigSep allTokens (fun x => (dutyTok ETrade x.1 x.2.1 x.2.2 : sProp 𝕄))
      = bigSep Finset.univ fun c : Dev nD => bigSep Finset.univ fun i : Port => dutyTok ETrade (cell c i) 0 () := by
    unfold allTokens; rw [bigSep_map, bigSep_univ_prod]; rfl
  iintro HX
  imod (Rounds.fund ETrade (trading sh) allCells allTokens) $$ HX with ⟨Hst, Hr, Hat, Htok⟩
  imodintro
  ihave Hst' := (Entails.of_eq (hX fun g => roundState ETrade (trading sh) g 0)) $$ Hst
  ihave Hat' := (Entails.of_eq (hX fun g => atPos ETrade g 0 ∅ 0)) $$ Hat
  ihave Hr' := (Entails.of_eq (hX fun g => reached ETrade g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

theorem ownSems_zero (c : Dev nD) :
    (Pipeline.ownSems0 (Ix := Unit) (Name := ℕ) (U := UU) (Lvl := ℕ) (Val := Elt F) (τ := τ) ownSem c : sProp 𝕄)
      = bigSep Finset.univ fun k : Fin 4 => iprop(semVal (cell c (some (false, k))) 0 ∗ semVal (cell c (some (true, k))) 0) := by
  have assoc : ∀ P Q R : sProp 𝕄, iprop((P ∗ Q) ∗ R) = iprop(P ∗ (Q ∗ R)) := fun P Q R => equiv_iff.mp ⟨BI.sep_assoc, BI.sep_assoc'⟩
  rw [Pipeline.ownSems0_eq_of_list c ownSem [(false, 0), (true, 0), (false, 1), (true, 1), (false, 2), (true, 2), (false, 3), (true, 3)]
    (by decide) (by decide), over_blocks]
  show iprop(_ ∗ _ ∗ _ ∗ _ ∗ _ ∗ _ ∗ _ ∗ _) = iprop((_ ∗ _) ∗ (_ ∗ _) ∗ (_ ∗ _) ∗ _ ∗ _)
  simp only [assoc]
  rfl

theorem barrier_zero (c : Dev nD) : (unscopedSems0 c : sProp 𝕄) = semVal (cell c none) 0 := by
  unfold unscopedSems0; rw [bigSep_eq_bigSepL_of_eq [SemLoc.reg barSem] (by decide) (by decide)]; rfl

theorem sems_zero (c : Dev nD) :
    iprop(unscopedSems0 c ∗ Pipeline.ownSems0 (Ix := Unit) (Name := ℕ) (U := UU) (Lvl := ℕ) (Val := Elt F) (τ := τ) ownSem c)
      = (bigSep Finset.univ fun i : Port => semVal (cell c i) 0 : sProp 𝕄) := by
  rw [ownSems_zero, barrier_zero, over_ports]

/-- One device's ports opened. -/
theorem open_ports (sh : Dev nD → Shard F) (c : Dev nD) :
    iprop(Pipeline.ownSems0 (Ix := Unit) (Name := ℕ) (U := UU) (Lvl := ℕ) (Val := Elt F) (τ := τ) ownSem c ∗ unscopedSems0 c ∗ dealt sh c)
      ⊢ |={Set.univ}=> iprop((bigSep Finset.univ fun i : Port => iprop(∃ κ : ℕ, cellInv ETrade (trading sh) κ (cell c i)))
          ∗ (bigSep Finset.univ fun i : Port => iprop(atPos ETrade (cell c i) 0 ∅ 0 ∗ reached ETrade (cell c i) 0))
          ∗ bigSep Finset.univ fun i : Port => dutyTok ETrade (cell c i) 0 ()) := by
  unfold dealt
  iintro ⟨Hos, Hus, Hst, Hat, Htok⟩
  ihave Hv := (Entails.of_eq (sems_zero (F := F) c)) $$ [Hos Hus]
  · isplitl [Hus] <;> iassumption
  imod (show iprop((bigSep Finset.univ fun i : Port => semVal (cell c i) 0) ∗ bigSep Finset.univ fun i : Port => roundState ETrade (trading sh) (cell c i) 0)
      ⊢ (|={Set.univ}=> bigSep Finset.univ fun i : Port => iprop(∃ κ : ℕ, cellInv ETrade (trading sh) κ (cell c i)) : sProp 𝕄) from by
        rw [← bigSep_sep']
        exact (bigSep_mono fun i _ => (Rounds.body_intro ETrade (trading sh) (cell c i)).trans inv_alloc).trans (bigSep_fupd _ _)) $$ [Hv Hst] with Hinv
  · isplitl [Hv] <;> iassumption
  imodintro
  isplitl [Hinv]; · iexact Hinv
  isplitl [Hat]; · iexact Hat
  iexact Htok

/-- The tokens, each passed to the device that pays with it. -/
def passTokens : (Dev nD × Port) ≃ (Dev nD × Port) where
  toFun ci := (pays ci.1 ci.2, ci.2)
  invFun ci := (pays ci.1 ci.2, ci.2)
  left_inv ci := by simp only [pays_pays]
  right_inv ci := by simp only [pays_pays]

theorem tokens_passed :
    (bigSep Finset.univ fun c : Dev nD => bigSep Finset.univ fun i : Port => (dutyTok ETrade (cell c i) 0 () : sProp 𝕄))
      = bigSep Finset.univ fun c : Dev nD => bigSep Finset.univ fun i : Port => dutyTok ETrade (cell (pays c i) i) 0 () := by
  rw [← bigSep_univ_prod (fun ci : Dev nD × Port => (dutyTok ETrade (cell ci.1 ci.2) 0 () : sProp 𝕄)),
    ← bigSep_univ_prod (fun ci : Dev nD × Port => (dutyTok ETrade (cell (pays ci.1 ci.2) ci.2) 0 () : sProp 𝕄)),
    bigSep_univ_equiv passTokens (fun ci : Dev nD × Port => (dutyTok ETrade (cell ci.1 ci.2) 0 () : sProp 𝕄))]
  rfl

/-- A device's share of the opened ports. -/
def share (sh : Dev nD → Shard F) (c : Dev nD) : sProp 𝕄 := iprop(∃ K, records sh K ∗ rights c)

theorem to_each {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem share_out (sh : Dev nD → Shard F) :
    (bigSep Finset.univ fun c : Dev nD => iprop((bigSep Finset.univ fun i : Port => iprop(∃ κ : ℕ, cellInv ETrade (trading sh) κ (cell c i)))
          ∗ (bigSep Finset.univ fun i : Port => iprop(atPos ETrade (cell c i) 0 ∅ 0 ∗ reached ETrade (cell c i) 0))
          ∗ bigSep Finset.univ fun i : Port => dutyTok ETrade (cell c i) 0 ()) : sProp 𝕄)
      ⊢ bigSep Finset.univ (share sh) := by
  rw [bigSep_sep', bigSep_sep', tokens_passed,
    ← bigSep_univ_prod (fun ci : Dev nD × Port => iprop(∃ κ : ℕ, cellInv ETrade (trading sh) κ (cell ci.1 ci.2))),
    bigSep_congr (s := Finset.univ) (fun (c : Dev nD) _ =>
      bigSep_sep' Finset.univ (fun i : Port => (atPos ETrade (cell c i) 0 ∅ 0 : sProp 𝕄)) (fun i => reached ETrade (cell c i) 0)),
    bigSep_sep', ← bigSep_univ_prod (fun ci : Dev nD × Port => (reached ETrade (cell ci.1 ci.2) 0 : sProp 𝕄))]
  iintro ⟨HI, ⟨Hat, #HR⟩, Htok⟩
  ihave HK := (BI.bigSep_exists_pi Finset.univ (fun (ci : Dev nD × Port) (κ : ℕ) => (cellInv ETrade (trading sh) κ (cell ci.1 ci.2) : sProp 𝕄))) $$ HI
  icases HK with ⟨%K, #HI⟩
  iapply (to_each (R := records sh K) (Φ := fun c => rights c) fun c _ => by
    unfold share; iintro ⟨#H, Hr⟩; iexists K; isplitr; · iexact H
    iexact Hr)
  isplitr
  · unfold records
    rw [bigSep_sep']
    isplitr; · iexact HI
    iexact HR
  · unfold rights
    simp only [bigSep_sep']
    isplitl [Hat]; · iexact Hat
    iexact Htok

theorem open_all (sh : Dev nD → Shard F) :
    (bigSep Finset.univ fun c => iprop(Pipeline.ownSems0 (Ix := Unit) (Name := ℕ) (U := UU) (Lvl := ℕ) (Val := Elt F) (τ := τ) ownSem c
        ∗ unscopedSems0 c ∗ dealt sh c) : sProp 𝕄)
      ⊢ |={Set.univ}=> bigSep Finset.univ (share sh) :=
  ((bigSep_mono fun c _ => open_ports sh c).trans (bigSep_fupd _ _)).trans (BI.fupd_mono (share_out sh))

/-! ## The credits -/

theorem owed_block (d c : Dev nD) (k : Fin 4) : ∀ ks : List (Fin 4), ks.Nodup →
    owesBlocks d ks (cell c (some (true, k))) () = if d = partner c ∧ k ∈ ks then blockCredit else 0
  | [], _ => by rw [if_neg (fun h => by cases h.2)]; rfl
  | l :: ks, h => by
    have ih := owed_block d c k ks (List.nodup_cons.1 h).2
    unfold owesBlocks
    rw [Pi.add_apply, Finsupp.add_apply, tallyAt_apply, ih]
    by_cases hd : d = partner c
    · subst hd
      by_cases hk : k = l
      · subst hk
        rw [if_neg (fun h' => (List.nodup_cons.1 h).1 h'.2), partner_partner, if_pos ⟨rfl, rfl⟩, if_pos ⟨rfl, List.mem_cons_self⟩, Nat.zero_add]
      · have : ¬ (cell c (some (true, k)) = cell (partner (partner c)) (some (true, l)) ∧ () = ()) := fun h' => by
          have := (cell_inj h'.1).2
          exact hk (by simpa using this)
        rw [if_neg this, Nat.add_zero]
        simp only [List.mem_cons, hk, false_or]
    · have : ¬ (cell c (some (true, k)) = cell (partner d) (some (true, l)) ∧ () = ()) := fun h' => by
        have := (cell_inj h'.1).1
        exact hd (by rw [this, partner_partner])
      rw [if_neg this, if_neg (fun h' => hd h'.1), if_neg (fun h' => hd h'.1)]

theorem owed_recv (d c : Dev nD) (k : Fin 4) : owesAll d (cell c (some (true, k))) () = if d = partner c then blockCredit else 0 := by
  unfold owesAll
  have h : ¬ (cell c (some (true, k)) = cell (partner d) none ∧ () = ()) := fun h' => by
    have := (cell_inj h'.1).2; cases this
  rw [Pi.add_apply, Finsupp.add_apply, tallyAt_apply, if_neg h, Nat.add_zero, owed_block d c k _ (by decide)]
  have hk : ∀ k : Fin 4, k ∈ ([0, 1, 2, 3] : List (Fin 4)) := by decide
  exact if_congr (and_iff_left (hk k)) rfl rfl

theorem owed_bar (d c : Dev nD) : owesAll d (cell c none) () = if d = partner c then 1 else 0 := by
  unfold owesAll
  have h0 : owesBlocks d [0, 1, 2, 3] (cell c none) () = 0 := by
    by_contra h
    obtain ⟨k, hk⟩ := owesBlocks_pos (Nat.pos_of_ne_zero h)
    have := (cell_inj hk).2; cases this
  rw [Pi.add_apply, Finsupp.add_apply, tallyAt_apply, h0, Nat.zero_add]
  by_cases h : d = partner c
  · subst h; rw [partner_partner, if_pos ⟨rfl, rfl⟩, if_pos rfl]
  · rw [if_neg (fun h' => h (by rw [(cell_inj h'.1).1, partner_partner])), if_neg h]

theorem launched (c : Dev nD) (i : Port) (n : ℕ) (h : ∀ d, owesAll d (cell c i) () = if d = partner c then n else 0) :
    tallyOn (cell c i) (launchCredit (Pipeline.owing owesAll) 0 (cell c i)) = (tallyAt (cell c i) () n : CellTallies nD τ sig Unit) := by
  unfold tallyAt; refine congrArg _ (Finsupp.ext fun u => ?_); cases u
  rw [Pipeline.launchCredit_owing, Finsupp.single_eq_same, Finset.sum_congr rfl fun d _ => h d,
    Finset.sum_ite_eq' Finset.univ (partner c) fun _ => n, if_pos (Finset.mem_univ _)]

theorem credited (c : Dev nD) : (Pipeline.launchCred owesAll c : sProp 𝕄) ⊢ credits c := by
  unfold Pipeline.launchCred credits
  refine BIBase.Entails.trans (BI.bigSep_subset (Finset.subset_univ (Finset.univ.map ⟨semOf, semOf_injective⟩))) ?_
  rw [bigSep_map, over_ports]
  refine BI.sep_mono (Entails.of_eq (congrArg cred (launched c none 1 fun d => owed_bar d c))) (bigSep_mono fun k _ => ?_)
  exact (show iprop(_ ∗ _) ⊢ _ from by iintro ⟨-, H⟩; iexact H).trans
    (Entails.of_eq (congrArg cred (launched c (some (true, k)) blockCredit fun d => owed_recv d c k)))

/-! ## The kernel's one point, met by its body -/

section Run

theorem window_share (c : Dev nD) (w : Fin cfg0.W) : (account m 0 c).share w = fullShare := by unfold Dat.share; split <;> rfl

theorem waits (c : Dev nD) : (levAts idxs height : sProp 𝕄) ⊢ Pipeline.cellsWaits cfgs (account m) () 0 c :=
  Pipeline.cellsWaits_intro cfgs (account m) () 0 c fun w s t =>
    mayWait_dma c _ (by fin_cases w <;> fin_cases s <;> decide) _ (by
      rcases t with ⟨_ | _, ht⟩
      · exact .inl rfl
      · exact .inr rfl)

theorem starts_intro (c : Dev nD) :
    iprop(Pipeline.unscopedRestP Pipeline.Prefetch.none cfg0.spec c (fun b => m (c.tc.loc b)) ∗ levAts idxs height
      ∗ Pipeline.launchCred owesAll c ∗ prngReg c (ρ c) ∗ share (shard m) c)
      ⊢ |={Set.univ}=> iprop(starts m c ∗ emp) := by
  unfold starts share
  iintro ⟨-, #Hlev, Hcr, -, HG⟩
  ihave Hc := (credited c) $$ Hcr
  imodintro
  isplitl
  · isplitl [HG]; · iexact HG
    isplitl [Hc]; · iexact Hc
    iexact Hlev
  · iempintro

theorem before_intro (c : Dev nD) :
    iprop(starts m c ∗ Pipeline.prefHeld Pipeline.Prefetch.none c (fun _ => fullShare.right) (fun k => k.elim0) ∗ Pipeline.scopedRest cfg0.spec c)
      ⊢ (account m 0 c).Φ 0 := by
  show _ ⊢ beforePoint m c
  unfold beforePoint sendBuffer
  rw [scopedRest0_eq]
  iintro ⟨HX, -, Hs⟩
  isplitl [HX] <;> iassumption

theorem after_exit (c : Dev nD) :
    (account m 0 c).Φ (Fin.last cfg0.N) ⊢ iprop(unscopedSems0 c
      ∗ Pipeline.ownSems0 (Ix := Unit) (Name := ℕ) (U := UU) (Lvl := ℕ) (Val := Elt F) (τ := τ) ownSem c ∗ Pipeline.scopedRest cfg0.spec c) := by
  show afterPoint c ⊢ _
  unfold afterPoint sendBuffer
  rw [scopedRest0_eq, ← sems_zero]
  iintro ⟨⟨Hu, Ho⟩, Hs⟩
  isplitl [Hu]; · iexact Hu
  isplitl [Ho] <;> iassumption

variable [FloatOps F]

/-- The body, as the pipeline enters it: at the grid's one point, every window staged whole. -/
def enters (c : Dev nD) : sProp 𝕄 :=
  iprop(beforePoint m c
    ∗ (account m 0 c).owesAt () point.castSucc
    ∗ (∃ d, staged c cc0_stg0_0 ((account m 0 c).before (0 : Fin 3) point d))
    ∗ (∃ d, staged c cc0_stg1_0 ((account m 0 c).before (1 : Fin 3) point d))
    ∗ (∃ d, staged c cc0_stg2_0 ((account m 0 c).before (2 : Fin 3) point d)))

set_option maxRecDepth 4000 in
theorem body_meets (ht : Trades m) (c : Dev nD) : BodyObligation (account m 0 c) (defs₀ (F := F)) noVariants () Set.univ := fun t => by
  rw [point_unique t, bigSep_W0, bigSep_W0]
  simp only [whole_buffer]
  show enters m c ⊢ wp frame (wpE (defs₀ (F := F)) noVariants c none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _) cc0_scratch1 cc0_scratch2)
    fun _ => bodyPost m c
  unfold enters beforePoint starts
  iintro ⟨⟨⟨⟨%K, Hg⟩, Hc, Hl⟩, Hb⟩, Hrest⟩
  iapply (sound_trade m ht K c fun _ => bodyPost m c)
  isplitl
  · unfold bodyPre
    isplitl [Hg Hc Hl Hb]
    · isplitl [Hg]; · iexact Hg
      isplitl [Hc]; · iexact Hc
      isplitl [Hl] <;> iassumption
    · iexact Hrest
  · iintro H; iexact H

/-! ## The run -/

set_option maxRecDepth 8000 in
theorem launch (ht : Trades m) : θ_run (defs (F := F)) (onTc (τ := τ) (main (F := F))) ⟨m, fun _ => 0, ρ⟩ (fun r =>
    (∀ c : Dev nD, ∀ w : Fin cfg0.W, r.2.mem ((cfg0.win w).arr.view.loc (c : Thread nD τ)) = (account m 0 c).arrAt w cfg0.N)
      ∧ r.2.sem = fun _ => 0) :=
  Pipeline.θ_run_region_owing_glob_pf (fun p => (cfgs p).toPCfg) (fun p => (cfgs p).toPCfg_adm) (account m) () cellOf_inj (0 : Fin 1)
    winFacts0.to₀ ownSem_facts (Pipeline.PreFacts.none _) EPipe defs₀ noVariants m ρ main
    (hmain := fun _ => rfl) (hbody := body_meets m ht) (hne := fun w => by fin_cases w <;> exact Nat.succ_pos _)
    (harr := arr_whole0) (hstage := stage_whole0) (hshare := window_share m) (hdistinct := winFacts0.arr_inj)
    (O₀ := owesAll) (howed₀ := fun _ => rfl) (howedN := fun _ => rfl)
    (L := idxs) (lv := height) (hL := idxs_of_ne) (hwaits := waits m)
    (G := dealt (shard m)) (G' := share (shard m)) (u₀ := ghost₀)
    (hu₀ := by
      unfold ghost₀
      iintro Hu
      ihave H := (ownU_pair _ _) $$ Hu
      icases H with ⟨HP, HX⟩
      imod (deal (shard m)) $$ HX with HG
      imodintro
      isplitl [HP] <;> iassumption)
    (hglob := open_all (shard m))
    (hA := fun _ _ => rfl) (hpf := fun _ k => k.elim0)
    (X := starts m) (Y := fun c => unscopedSems0 c) (Z := fun _ => iprop(emp))
    (hX := starts_intro m ρ) (hin := before_intro m) (hout := after_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem output_at (c : Dev nD) : (account m 0 c).arrAt (2 : Fin 3) cfg0.N = shard m (partner c) := by
  rw [show cfg0.N = point.val + 1 from rfl, (account m 0 c).arrAt_succ (2 : Fin 3) point, flush0_2, if_pos rfl]
  exact Memref.write_access_unit_zero_univ (Elt F) main_v1 (funext fun a => by fin_cases a <;> rfl) _ _ _

/-- Every run that trades ends with the arguments as they were, the result the partner's shard, every semaphore at zero. -/
theorem run_trade (ht : Trades m) : θ_run (defs (F := F)) (onTc (τ := τ) (main (F := F))) ⟨m, fun _ => 0, ρ⟩ (fun r =>
    (∀ c : Dev nD, r.2.mem (c.tc.loc main_v1) = shard m (partner c)
      ∧ r.2.mem (c.tc.loc main_arg0) = m (c.tc.loc main_arg0) ∧ r.2.mem (c.tc.loc main_arg1) = m (c.tc.loc main_arg1))
      ∧ r.2.sem = fun _ => 0) :=
  (θ_run defs _ _).mono (fun _ h => ⟨fun c => ⟨(h.1 c (2 : Fin 3)).trans (output_at m c),
    (h.1 c (0 : Fin 3)).trans ((account m 0 c).arrAt_in (0 : Fin 3) rfl _),
    (h.1 c (1 : Fin 3)).trans ((account m 0 c).arrAt_in (1 : Fin 3) rfl _)⟩, h.2⟩) (launch m ρ ht)

end Run

end Cert.Permute
-- ==== Proof.KeepRun.lean ====
/-
The run when every device keeps its shard.

A device whose table names its own row copies its shard into the output and touches no semaphore, so the semaphores and
the send buffer pass through the body as they stand, and nobody owes anything.
-/
module

public import proofs.«01_k».proof.Proof.TradeRun

@[expose] public section

noncomputable section

namespace Cert.Permute

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type}

local notation "𝕄" => MT nD τ sig Unit (Elt F) ℕ UU ℕ

variable (m : (ℓ : Loc nD τ sig) → Buf (Elt F) ℓ) (ρ : Dev nD → PrngReg)

/-- The account of a device that keeps its shard: the output is the shard, and nothing is owed. -/
def keepAccount (_ : Fin 1) (c : Dev nD) : Dat τ (Elt F) Unit ℕ UU ℕ cfg0 c where
  A w := m ((cfg0.win w).arr.view.loc (c : Thread nD τ))
  after w _ := match w with
    | ⟨0, _⟩ => shard m c
    | ⟨1, _⟩ => table m c
    | ⟨2, _⟩ => shard m c
  Φ _ := afterPoint c
  q _ := fullShare
  owed _ := 0

theorem copied (v : Shard F) : k0_pay1 v = v := by
  unfold k0_pay1
  exact funext fun j => congrArg v (Shape.reshapeEquiv_self _ j)

/-- The whole of a buffer shaped as a shard. -/
abbrev wholeShard : Rect S1x512x512 := Rect.unit (s := S1x512x512) ![0, 0, 0] S1x512x512.size inb_S1x512x512_S1x512x512_0_0_0

theorem wholeShard_start : (![0, 0, 0] : Fin 3 → ℕ) = fun _ => 0 := funext fun a => by fin_cases a <;> rfl

variable [FloatOps F]

def keepPre (c : Dev nD) : sProp 𝕄 :=
  iprop(afterPoint c
    ∗ (keepAccount m 0 c).owesAt () point.castSucc
    ∗ (∃ d, staged c cc0_stg0_0 ((keepAccount m 0 c).before (0 : Fin 3) point d))
    ∗ (∃ d, staged c cc0_stg1_0 ((keepAccount m 0 c).before (1 : Fin 3) point d))
    ∗ (∃ d, staged c cc0_stg2_0 ((keepAccount m 0 c).before (2 : Fin 3) point d)))
def keepPost (c : Dev nD) : sProp 𝕄 :=
  iprop(afterPoint c ∗ (keepAccount m 0 c).owesAt () point.succ
    ∗ staged c cc0_stg0_0 (shard m c) ∗ staged c cc0_stg1_0 (table m c) ∗ staged c cc0_stg2_0 (shard m c))

set_option maxHeartbeats 4000000 in
theorem sound_keep (hk : Keeps m) (c : Dev nD) (Kt : PUnit → sProp 𝕄) :
    iprop(keepPre m c ∗ (keepPost m c -∗ Kt ⟨⟩))
      ⊢ wp frame (wpE (defs₀ (F := F)) noVariants c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) cc0_scratch1 cc0_scratch2) Kt := by
  simp only [cc0_body_eq_skeleton]; unfold cc0_body_skel
  simp only [smemLoad, smemLoadElt, Prog.lift, Prog.bind_op, Prog.bind_ret, Prog.pure_eq_ret, Prog.bind_assoc, wp_deviceId]
  unfold keepPre
  iintro ⟨⟨HΦ, Ho, ⟨%d0, %g0, %hg0, Hx⟩, ⟨%d1, %g1, %hg1, Htab⟩, ⟨%d2, %g2, %hg2, Hout⟩⟩, Hk⟩
  have hx : g0 = shard m c := by rw [hg0]; unfold Dat.before; rw [if_pos (fetch0_0 point)]; rfl
  subst hx
  have htab : g1 = table m c := by rw [hg1]; unfold Dat.before; rw [if_pos (fetch0_1 point)]; rfl
  subst htab
  iapply (wp_load_rect noVariants (c : Thread nD τ) none Set.univ (m := Memref.whole cc0_stg1_0) (r := wordAt c) (Finset.subset_univ _)) $$ Htab
  iintro Htab
  have hw := hk.word_eq c
  unfold word at hw
  rw [hw]
  simp only [wp_assume_of _ _ _ _ (d := k0_chk1.dec _ _) (own_chk c)]
  simp only [dif_neg (own_cond c), if_pos (own_last c), Prog.bind_op, Prog.bind_ret, Prog.pure_eq_ret, Prog.bind_assoc]
  iapply (wp_load_rect noVariants (c : Thread nD τ) none Set.univ (m := Memref.whole cc0_stg0_0) (r := wholeShard) (Finset.subset_univ _)) $$ Hx
  iintro Hx
  iapply (wp_load_rect noVariants (c : Thread nD τ) none Set.univ (m := Memref.whole cc0_stg2_0) (r := wholeShard) (Finset.subset_univ _)) $$ Hout
  iintro Hout
  iapply (wp_store noVariants (c : Thread nD τ) none Set.univ (m := Memref.whole cc0_stg2_0) (r := wholeShard) (Mk := Finset.univ)
    (Finset.subset_univ _)) $$ Hout
  iintro Hout
  rw [wp_ret]; imodintro
  iapply Hk
  unfold keepPost
  isplitl [HΦ]; · iexact HΦ
  isplitl [Ho]; · iexact Ho
  isplitl [Hx]
  · iexists _; isplitr; · (ipureintro; rfl)
    iexact Hx
  isplitl [Htab]
  · iexists _; isplitr; · (ipureintro; rfl)
    iexact Htab
  iexists _; isplitr; swap
  · iexact Hout
  · ipureintro
    exact (Memref.write_access_unit_zero_univ (Elt F) cc0_stg2_0 wholeShard_start
      inb_S1x512x512_S1x512x512_0_0_0 _ _).trans ((copied (F := F) _).trans
        (Memref.read_access_unit_zero (Elt F) cc0_stg0_0 wholeShard_start inb_S1x512x512_S1x512x512_0_0_0 (shard m c)))

set_option maxRecDepth 4000 in
theorem keep_meets (hk : Keeps m) (c : Dev nD) : BodyObligation (keepAccount m 0 c) (defs₀ (F := F)) noVariants () Set.univ := fun t => by
  rw [point_unique t, bigSep_W0, bigSep_W0]
  simp only [whole_buffer]
  show keepPre m c ⊢ wp frame (wpE (defs₀ (F := F)) noVariants c none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _) cc0_scratch1 cc0_scratch2)
    fun _ => keepPost m c
  iintro H
  iapply (sound_keep m hk c fun _ => keepPost m c)
  isplitl
  · iexact H
  · iintro H; iexact H

/-! ## The run -/

theorem keep_ports (c : Dev nD) :
    iprop(Pipeline.ownSems0 (Ix := Unit) (Name := ℕ) (U := UU) (Lvl := ℕ) (Val := Elt F) (τ := τ) ownSem c ∗ unscopedSems0 c ∗ emp)
      ⊢ bigSep Finset.univ fun i : Port => semVal (cell c i) 0 := by
  rw [← sems_zero]
  iintro ⟨Ho, Hu, -⟩
  isplitl [Hu] <;> iassumption

set_option maxRecDepth 8000 in
theorem keep_launch (hk : Keeps m) : θ_run (defs (F := F)) (onTc (τ := τ) (main (F := F))) ⟨m, fun _ => 0, ρ⟩ (fun r =>
    (∀ c : Dev nD, ∀ w : Fin cfg0.W, r.2.mem ((cfg0.win w).arr.view.loc (c : Thread nD τ)) = (keepAccount m 0 c).arrAt w cfg0.N)
      ∧ r.2.sem = fun _ => 0) :=
  Pipeline.θ_run_region_owing_glob_pf (fun p => (cfgs p).toPCfg) (fun p => (cfgs p).toPCfg_adm) (keepAccount m) () cellOf_inj (0 : Fin 1)
    winFacts0.to₀ ownSem_facts (Pipeline.PreFacts.none _) EPipe defs₀ noVariants m ρ main
    (hmain := fun _ => rfl) (hbody := keep_meets m hk) (hne := fun w => by fin_cases w <;> exact Nat.succ_pos _)
    (harr := arr_whole0) (hstage := stage_whole0) (hshare := fun c w => by unfold Dat.share; split <;> rfl) (hdistinct := winFacts0.arr_inj)
    (O₀ := fun _ => 0) (howed₀ := fun _ => rfl) (howedN := fun _ => rfl)
    (L := idxs) (lv := height) (hL := idxs_of_ne)
    (hwaits := fun c => Pipeline.cellsWaits_intro cfgs (keepAccount m) () 0 c fun w s t =>
      mayWait_dma c _ (by fin_cases w <;> fin_cases s <;> decide) _ (.inr rfl))
    (G := fun _ => iprop(emp)) (G' := fun c => bigSep Finset.univ fun i : Port => semVal (cell c i) 0) (u₀ := ghost₀)
    (hu₀ := by
      unfold ghost₀
      iintro Hu
      ihave H := (ownU_pair _ _) $$ Hu
      icases H with ⟨HP, -⟩
      imodintro
      isplitl [HP]; · iexact HP
      iapply (BI.bigSep_of_persistent Finset.univ (iprop(emp) : sProp 𝕄))
      iempintro)
    (hglob := (bigSep_mono fun c _ => keep_ports c).trans (show _ ⊢ |={Set.univ}=> _ from fupd_intro))
    (hA := fun _ _ => rfl) (hpf := fun _ k => k.elim0)
    (X := fun c => bigSep Finset.univ fun i : Port => semVal (cell c i) 0) (Y := fun c => unscopedSems0 c) (Z := fun _ => iprop(emp))
    (hX := fun c => by
      iintro ⟨-, -, -, -, H⟩
      imodintro
      isplitl; · iexact H
      iempintro)
    (hin := fun c => by
      show _ ⊢ afterPoint c
      unfold afterPoint sendBuffer
      rw [scopedRest0_eq]
      iintro ⟨HX, -, Hs⟩
      isplitl [HX] <;> iassumption)
    (hout := after_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem keep_output_at (c : Dev nD) : (keepAccount m 0 c).arrAt (2 : Fin 3) cfg0.N = shard m c := by
  rw [show cfg0.N = point.val + 1 from rfl, (keepAccount m 0 c).arrAt_succ (2 : Fin 3) point, flush0_2, if_pos rfl]
  exact Memref.write_access_unit_zero_univ (Elt F) main_v1 (funext fun a => by fin_cases a <;> rfl) _ _ _

/-- Every run that keeps ends with the arguments as they were, the result the device's own shard, every semaphore at zero. -/
theorem run_keep (hk : Keeps m) : θ_run (defs (F := F)) (onTc (τ := τ) (main (F := F))) ⟨m, fun _ => 0, ρ⟩ (fun r =>
    (∀ c : Dev nD, r.2.mem (c.tc.loc main_v1) = shard m c
      ∧ r.2.mem (c.tc.loc main_arg0) = m (c.tc.loc main_arg0) ∧ r.2.mem (c.tc.loc main_arg1) = m (c.tc.loc main_arg1))
      ∧ r.2.sem = fun _ => 0) :=
  (θ_run defs _ _).mono (fun _ h => ⟨fun c => ⟨(h.1 c (2 : Fin 3)).trans (keep_output_at m c),
    (h.1 c (0 : Fin 3)).trans ((keepAccount m 0 c).arrAt_in (0 : Fin 3) rfl _),
    (h.1 c (1 : Fin 3)).trans ((keepAccount m 0 c).arrAt_in (1 : Fin 3) rfl _)⟩, h.2⟩) (keep_launch m ρ hk)

end Cert.Permute
-- ==== Proof.Reference.lean ====
/-
What the reference computes when the table is `[1, 0]` or `[0, 1]`.

The reference sorts the positions of the table by its words, takes the matrices of the input in that order, and passes
them through a wider format and back. Over the extended reals a change of format is the identity. The order of `[1, 0]` is
`[1, 0]` and the order of `[0, 1]` is `[0, 1]`, so the result is the input with its two matrices exchanged, or the input.
-/
module

public import proofs.«01_k».proof.Proof.Gen.ReferenceIdeal
public import proofs.«01_k».proof.Proof.Gen.ReferenceIdeal.Run
public import proofs.«01_k».proof.Proof.Table
public import Idealize.ShloMosaic.PureOps.Ideal
public import Idealize.ShloMosaic.Lib.Layout

@[expose] public section

noncomputable section

namespace Cert.Permute.Ref

open Cert.ReferenceIdeal Cert.ReferenceIdeal.Gen
open Idealize.ShloMosaic

/-- The table `[1, 0]` and the table `[0, 1]`. -/
def swapped : IVec S2 32 := fun i => BitVec.ofNat 32 (1 - (i 0).val)
def kept : IVec S2 32 := fun i => BitVec.ofNat 32 (i 0).val

/-- The positions of a table in the order of its words. -/
def sorted (t : IVec S2 32) : IVec S2 32 := (Host.sort2 S2 0 comparator_i32_i32_d0 t (iotaInDim S2 32 0)).2

/-- The start indices the reference takes its matrices at: the sorted positions, a negative one counted from the end. -/
def starts (t : IVec S2 32) : IVec S2x1 32 :=
  broadcastInDim S2x1 ![0] Facts₀.bcast_S2_S2x1_0
    (select (cmpi .slt (sorted t) (broadcastInDim S2 ![] Facts₀.bcast_S_S2 (constantI S_ 32 0#32)))
      (addi (sorted t) (broadcastInDim S2 ![] Facts₀.bcast_S_S2 (constantI S_ 32 2#32))) (sorted t))

/-- Start indices are read at one number, the row. -/
def startAt (p : Fin 2) : S2x1.Idx := fun a => if h : a = 0 then ⟨p.val, by subst h; exact p.isLt⟩ else ⟨0, by fin_cases a <;> simp_all⟩

theorem startAt_row (i : S2x1.Idx) : i = startAt (i 0) := by
  funext a
  fin_cases a
  · rfl
  · exact Fin.ext (by have : (i 1).val < 1 := (i 1).isLt; show (i 1).val = 0; omega)

theorem starts_swapped (i : S2x1.Idx) : (starts swapped i).toInt.toNat = 1 - (i 0).val := by
  have h : ∀ p : Fin 2, (starts swapped (startAt p)).toInt.toNat = 1 - p.val := by decide
  rw [startAt_row i]
  exact h (i 0)

theorem starts_kept (i : S2x1.Idx) : (starts kept i).toInt.toNat = (i 0).val := by
  have h : ∀ p : Fin 2, (starts kept (startAt p)).toInt.toNat = p.val := by decide
  rw [startAt_row i]
  exact h (i 0)

/-! ## Where a taken element comes from -/

/-- The element of the input that lands at `y`. -/
abbrev source (y : S2x512x512.Idx) (z : IVec S2x1 32) : S2x512x512.Idx :=
  (gather_S2x512x512_S2x1_S2x512x512_12_0_n_n_0_1_1512512).operandIdx y z

theorem source_row (y : S2x512x512.Idx) (z : IVec S2x1 32) :
    ∃ i : S2x1.Idx, (i 0).val = (y 0).val ∧ (source y z 0).val = min (z i).toInt.toNat 1 :=
  ⟨_, rfl, rfl⟩

theorem source_mid (y : S2x512x512.Idx) (z : IVec S2x1 32) : (source y z 1).val = (y 1).val := by
  show 0 + 0 + (y 1).val = _
  omega

theorem source_last (y : S2x512x512.Idx) (z : IVec S2x1 32) : (source y z 2).val = (y 2).val := by
  show 0 + 0 + (y 2).val = _
  omega

theorem source_swapped (y : S2x512x512.Idx) : (source y (starts swapped) 0).val = 1 - (y 0).val := by
  obtain ⟨i, hi, h⟩ := source_row y (starts swapped)
  rw [h, starts_swapped, hi]
  omega

theorem source_kept (y : S2x512x512.Idx) : (source y (starts kept) 0).val = (y 0).val := by
  obtain ⟨i, hi, h⟩ := source_row y (starts kept)
  have : (y 0).val < 2 := (y 0).isLt
  rw [h, starts_kept, hi]
  omega

/-! ## The result -/

/-- What the reference leaves of an input and a table. -/
def result (x : FVec Ideal S2x512x512 .bf16) (t : IVec S2 32) : FVec Ideal S2x512x512 .bf16 :=
  truncf .bf16 (extf .f32 (Host.gather gather_S2x512x512_S2x1_S2x512x512_12_0_n_n_0_1_1512512 x (starts t)) Facts₀.bitsLt_bf16_f32)
    Facts₀.bitsLt_bf16_f32

theorem result_at (x : FVec Ideal S2x512x512 .bf16) (t : IVec S2 32) (y : S2x512x512.Idx) :
    result x t y = x (source y (starts t)) := rfl

/-- Device `c`'s part of a whole array cut into its two matrices by the rows of the mesh. -/
abbrev part (c : Dev 4) (x : FVec Ideal S2x512x512 .bf16) : FVec Ideal ⟨3, ![1, 512, 512]⟩ .bf16 :=
  Layout.blockN ⟨3, ![1, 512, 512]⟩ ⟨3, ![2, 512, 512]⟩ (Layout.meshBlock [2, 2] ![[0], [], []] c) x

theorem mesh_row (c : Dev 4) : (Layout.meshBlock [2, 2] (![[0], [], []] : Fin 3 → List Nat) c (h := by decide) 0).val = c.val / 2 := by
  revert c; decide

/-- Parts agree when one array read at a row of the mesh is the other read at another. -/
theorem part_eq (c d : Dev 4) (x v : FVec Ideal S2x512x512 .bf16)
    (h : ∀ y z : S2x512x512.Idx, (y 0).val = c.val / 2 → (z 0).val = d.val / 2 → (y 1).val = (z 1).val → (y 2).val = (z 2).val → v y = x z) :
    part c v = part d x := by
  funext i
  have h0 : (i 0).val < 1 := (i 0).isLt
  refine h _ _ ?_ ?_ ?_ ?_
  · rw [Layout.TilesN.idx_val]
    show (Layout.meshBlock [2, 2] (![[0], [], []] : Fin 3 → List Nat) c (h := by decide) 0).val * 1 + (i 0).val = _
    rw [mesh_row]; omega
  · rw [Layout.TilesN.idx_val]
    show (Layout.meshBlock [2, 2] (![[0], [], []] : Fin 3 → List Nat) d (h := by decide) 0).val * 1 + (i 0).val = _
    rw [mesh_row]; omega
  · rw [Layout.TilesN.idx_val, Layout.TilesN.idx_val]; rfl
  · rw [Layout.TilesN.idx_val, Layout.TilesN.idx_val]; rfl

theorem part_swapped (c : Dev 4) (x : FVec Ideal S2x512x512 .bf16) : part c (result x swapped) = part (partner c) x :=
  part_eq c (partner c) x _ fun y z hy hz h1 h2 => by
    rw [result_at]
    congr 1
    funext a
    apply Fin.ext
    have hc : c.val < 4 := c.isLt
    have hp : (partner c).val = (c.val + 2) % 4 := rfl
    fin_cases a
    · exact (source_swapped y).trans (by show _ = (z 0).val; omega)
    · exact (source_mid y _).trans h1
    · exact (source_last y _).trans h2

theorem part_kept (c : Dev 4) (x : FVec Ideal S2x512x512 .bf16) : part c (result x kept) = part c x :=
  part_eq c c x _ fun y z hy hz h1 h2 => by
    rw [result_at]
    congr 1
    funext a
    apply Fin.ext
    fin_cases a
    · exact (source_kept y).trans (by show _ = (z 0).val; omega)
    · exact (source_mid y _).trans h1
    · exact (source_last y _).trans h2

end Cert.Permute.Ref

end
-- ==== Proof.SameText.lean ====
/-
The kernel and its idealization are one program.

No operation was rewritten, so the two texts are the same. Their body tables choose a body by the label; the label has to
be taken apart before the two choices are seen to agree. A run of the idealization at words is then a run of the kernel.
-/
module

public import proofs.«01_k».proof.Proof.Gen.Kernel
public import proofs.«01_k».proof.Proof.Gen.KernelIdeal

@[expose] public section

noncomputable section

namespace Cert.Permute

open Idealize.ShloMosaic Idealize.SL.Sem

variable {F : FTy → Type} [FloatOps F]

theorem bodies_same : Cert.Kernel.defs₀ (F := F) = Cert.KernelIdeal.defs₀ (F := F) := by
  refine congrArg (Defs.onTc (nD := Cert.KernelIdeal.nD) (τ := Cert.KernelIdeal.τ) (sig := Cert.KernelIdeal.sig) (Λ := Cert.KernelIdeal.Λ₀)) ?_
  funext ℓ a
  match ℓ, a with
  | 0, (t, s) => rfl
  | ⟨_ + 1, h⟩, _ => exact absurd h (Nat.not_lt.2 (Nat.le_add_left _ _))

theorem table_same : Cert.Kernel.defs (F := F) = Cert.KernelIdeal.defs (F := F) :=
  congrArg (Pipeline.defs (Cert.KernelIdeal.pcfgs (F := F))) bodies_same

theorem main_same : Cert.Kernel.main (F := F) = Cert.KernelIdeal.main (F := F) := rfl

end Cert.Permute

end
-- ==== Proof.lean ====
/-
The claims: the permutation of the two rows of the mesh, under each of the two tables that are permutations.

Under `[1, 0]` every device trades shards with its partner in the other row (Proof/TradeRun.lean); under `[0, 1]` every
device copies its own shard to its result (Proof/KeepRun.lean). Both runs hold whatever the floats are, so they give the
frames of the kernel over words and over the extended reals alike. The reference takes the matrices of the whole input in
the order of the table (Proof/Reference.lean), and what each device ends with is its part of that.

Every frame also says that every semaphore counter ends at zero: the kernel's runs show it, and the reference declares
no semaphore.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_swap_Kernel
public import proofs.«01_k».proof.Proof.Gen.Pre_keep_Kernel
public import proofs.«01_k».proof.Proof.Gen.Pre_swap_ReferenceIdeal
public import proofs.«01_k».proof.Proof.Gen.Pre_keep_ReferenceIdeal
public import proofs.«01_k».proof.Proof.KeepRun
public import proofs.«01_k».proof.Proof.Reference
public import proofs.«01_k».proof.Proof.SameText
public import Idealize.ShloMosaic.Lib.Quiescent
public import Idealize.ShloMosaic.Lib.StableHlo.Predicate

@[expose] public section

noncomputable section

namespace Cert.Proof

open Idealize.ShloMosaic Idealize.SL.Sem
open Cert.Permute Cert.Permute.Ref

/-! ## What the preconditions say -/

section Tables

variable {F : FTy → Type} [FloatOps F]

theorem swapped_of (x : FVec F ⟨3, ![1, 512, 512]⟩ .bf16) (t : IVec Cert.ReferenceIdeal.S2 32)
    (h : Cert.Pre_swap_Kernel.fn x t = fun _ => 1#1) : t = swapped := by
  funext i
  have h1 : IntOp.cmpi .eq (t i) (1#32 - BitVec.ofNat 32 (i 0).val) = 1#1 := congrFun h i
  have h2 : ∀ p : Fin 2, 1#32 - BitVec.ofNat 32 p.val = BitVec.ofNat 32 (1 - p.val) := by decide
  exact (StableHlo.Predicate.cmpi_eq_iff.1 h1).trans (h2 (i 0))

theorem kept_of (x : FVec F ⟨3, ![1, 512, 512]⟩ .bf16) (t : IVec Cert.ReferenceIdeal.S2 32)
    (h : Cert.Pre_keep_Kernel.fn x t = fun _ => 1#1) : t = kept := by
  funext i
  have h1 : IntOp.cmpi .eq (t i) (BitVec.ofNat 32 (i 0).val) = 1#1 := congrFun h i
  exact StableHlo.Predicate.cmpi_eq_iff.1 h1

end Tables

section Memories

open Cert.KernelIdeal

variable {F : FTy → Type} [FloatOps F] (m : (ℓ : Loc nD τ sig) → Buf (Elt F) ℓ)

theorem trades_of (h : ∀ c : Dev nD, Cert.Pre_swap_Kernel.fn (F := F) (m (c.tc.loc main_arg0)) (m (c.tc.loc main_arg1)) = fun _ => 1#1) :
    Trades m := fun c => (congrFun (swapped_of _ _ (h c)) (rowIdx c)).trans rfl

theorem keeps_of (h : ∀ c : Dev nD, Cert.Pre_keep_Kernel.fn (F := F) (m (c.tc.loc main_arg0)) (m (c.tc.loc main_arg1)) = fun _ => 1#1) :
    Keeps m := fun c => (congrFun (kept_of _ _ (h c)) (rowIdx c)).trans rfl

omit [FloatOps F] in
/-- A device's shard is the whole of its first argument. -/
theorem shard_eq (c : Dev nD) : shard m c = m (c.tc.loc main_arg0) :=
  Memref.read_access_unit_zero (Elt F) main_arg0 (funext fun a => by fin_cases a <;> rfl) _ _

/-- The frames of the kernel, over any floats. -/
theorem frame_trade (ρ : Dev nD → PrngReg) (ht : Trades m) :
    θ_run (defs (F := F)) (onTc (τ := τ) (main (F := F))) ⟨m, fun _ => 0, ρ⟩ (fun r =>
      (∀ c : Dev nD, r.2.mem (c.tc.loc main_arg0) = m (c.tc.loc main_arg0) ∧ r.2.mem (c.tc.loc main_arg1) = m (c.tc.loc main_arg1))
      ∧ r.2.sem = fun _ => 0) :=
  (θ_run defs _ _).mono (fun _ h => ⟨fun c => (h.1 c).2, h.2⟩) (run_trade m ρ ht)

theorem frame_keep (ρ : Dev nD → PrngReg) (hk : Keeps m) :
    θ_run (defs (F := F)) (onTc (τ := τ) (main (F := F))) ⟨m, fun _ => 0, ρ⟩ (fun r =>
      (∀ c : Dev nD, r.2.mem (c.tc.loc main_arg0) = m (c.tc.loc main_arg0) ∧ r.2.mem (c.tc.loc main_arg1) = m (c.tc.loc main_arg1))
      ∧ r.2.sem = fun _ => 0) :=
  (θ_run defs _ _).mono (fun _ h => ⟨fun c => (h.1 c).2, h.2⟩) (run_keep m ρ hk)

end Memories

/-! ## The frames -/

theorem frame_kernel_swap : Cert.quiescent_Kernel := fun m ρ h => by
  rw [table_same, main_same]
  exact frame_trade (F := Bits) m ρ (trades_of (F := Bits) m h)
theorem frame_kernel_keep : Cert.quiescent_Kernel_pre_keep_Kernel := fun m ρ h => by
  rw [table_same, main_same]
  exact frame_keep (F := Bits) m ρ (keeps_of (F := Bits) m h)
theorem frame_ideal_swap : Cert.quiescent_KernelIdeal := fun m ρ h => frame_trade m ρ (trades_of m h)
theorem frame_ideal_keep : Cert.quiescent_KernelIdeal_pre_keep_Kernel := fun m ρ h => frame_keep m ρ (keeps_of m h)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! ## The values -/

section Values

variable (m' : (ℓ : Loc Cert.ReferenceIdeal.nD Cert.ReferenceIdeal.τ Cert.ReferenceIdeal.sig) → Buf (Elt Ideal) ℓ)

/-- The reference's two arguments, whole. -/
abbrev input : FVec Ideal Cert.ReferenceIdeal.S2x512x512 .bf16 := m' ((0 : Dev Cert.ReferenceIdeal.nD).tc.loc Cert.ReferenceIdeal.main_arg0)
abbrev order : IVec Cert.ReferenceIdeal.S2 32 := m' ((0 : Dev Cert.ReferenceIdeal.nD).tc.loc Cert.ReferenceIdeal.main_arg1)

/-- The reference leaves `result` of them and keeps them. -/
theorem run_reference (ρ : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ⟩ (fun r =>
      r.2.mem ((0 : Dev Cert.ReferenceIdeal.nD).tc.loc Cert.ReferenceIdeal.main_v9) = result (input m') (order m')
      ∧ r.2.mem ((0 : Dev Cert.ReferenceIdeal.nD).tc.loc Cert.ReferenceIdeal.main_arg0) = input m'
      ∧ r.2.mem ((0 : Dev Cert.ReferenceIdeal.nD).tc.loc Cert.ReferenceIdeal.main_arg1) = order m') :=
  (θ_run Cert.ReferenceIdeal.defs _ _).mono (fun _ h => h 0) (Cert.ReferenceIdeal.Value.run (F := Ideal) m' ρ)

end Values

theorem algebraic_swap : Cert.algebraic_KernelIdeal_ReferenceIdeal := fun m ρ m' ρ' h hm => by
  have ho : order m' = swapped := (hm 0).2.symm.trans (swapped_of _ _ (h 0))
  refine ⟨result (input m') (order m'), ?_, run_reference m' ρ'⟩
  refine (θ_run Cert.KernelIdeal.defs _ _).mono (fun _ k c => ⟨(k.1 c).1.trans ?_, (k.1 c).2⟩) (run_trade m ρ (trades_of m h))
  rw [shard_eq, (hm (partner c)).1, ho]
  exact (part_swapped c (input m')).symm

theorem algebraic_keep : Cert.algebraic_KernelIdeal_ReferenceIdeal_pre_keep_Kernel := fun m ρ m' ρ' h hm => by
  have ho : order m' = kept := (hm 0).2.symm.trans (kept_of _ _ (h 0))
  refine ⟨result (input m') (order m'), ?_, run_reference m' ρ'⟩
  refine (θ_run Cert.KernelIdeal.defs _ _).mono (fun _ k c => ⟨(k.1 c).1.trans ?_, (k.1 c).2⟩) (run_keep m ρ (keeps_of m h))
  rw [shard_eq, (hm c).1, ho]
  exact (part_kept c (input m')).symm

theorem claim : Cert.Claim :=
  ⟨Cert.Kernel.Gen.facts, Cert.KernelIdeal.Gen.facts, Cert.ReferenceIdeal.Gen.facts, Cert.Pre_swap_Kernel.Gen.facts,
    Cert.Pre_keep_Kernel.Gen.facts, Cert.Pre_swap_ReferenceIdeal.Gen.facts, Cert.Pre_keep_ReferenceIdeal.Gen.facts,
    frame_kernel_swap, frame_kernel_keep, frame_ideal_swap, frame_ideal_keep,
    frame_reference, fun m ρ _ => frame_reference m ρ trivial, fun m ρ _ => frame_reference m ρ trivial,
    trivial, algebraic_swap, algebraic_keep⟩

end Cert.Proof

end
